-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x2048x1024 : Shape := ⟨3, ![1, 2048, 1024]⟩
abbrev S1024x1024 : Shape := ⟨2, ![1024, 1024]⟩
abbrev S1x2048x64x128 : Shape := ⟨4, ![1, 2048, 64, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .bf16) (main_arg1 : FVec F S1024x1024 .bf16) (main_arg2 : FVec F S1x2048x64x128 .bf16) (main_arg3 : FVec F S1x2048x64x128 .bf16) (main_arg4 : FVec F S1024x1024 .bf16) : IVec S_ 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x64x128 .bf16 := Host.absf main_arg2
  let main_cst_2 : FVec F S_ .bf16 := constant S_ .bf16 0x7F80#16
  let main_v10 : FVec F S1x2048x64x128 .bf16 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Pre_finite_ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x2048x64x128 : S_.BroadcastsInDim S1x2048x64x128 (![] : Fin 0 → Fin S1x2048x64x128.rank)
  reducesTo_S1x2048x64x128_S_d0_1_2_3 : S1x2048x64x128.ReducesTo [0, 1, 2, 3] S_

variable [Facts]

def fn {F : FTy → Type} [FloatOps F] (main_arg0 : FVec F S1x2048x1024 .bf16) (main_arg1 : FVec F S1024x8192 .bf16) (main_arg2 : FVec F S1x2048x64x128 .bf16) (main_arg3 : FVec F S1x2048x64x128 .bf16) (main_arg4 : FVec F S8192x1024 .bf16) : IVec S_ 1 :=
  let main_v0 : FVec F S1x2048x1024 .bf16 := Host.absf main_arg0
  let main_cst : FVec F S_ .bf16 := constant S_ .bf16 0x7F80#16
  let main_v1 : FVec F S1x2048x1024 .bf16 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x8192 .bf16 := Host.absf main_arg1
  let main_cst_0 : FVec F S_ .bf16 := constant S_ .bf16 0x7F80#16
  let main_v5 : FVec F S1024x8192 .bf16 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x2048x64x128 .bf16 := Host.absf main_arg2
  let main_cst_2 : FVec F S_ .bf16 := constant S_ .bf16 0x7F80#16
  let main_v10 : FVec F S1x2048x64x128 .bf16 := broadcastInDim S1x2048x64x128 ![] bcast_S_S1x2048x64x128 main_cst_2
  let main_v11 : IVec S1x2048x64x128 1 := cmpf .olt main_v9 main_v10
  let main_c_3 : IVec S_ 1 := constantI S_ 1 1#1
  let main_v12 : IVec S_ 1 := (fun x v => Host.reduce IntOp.andi x v reducesTo_S1x2048x64x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x64x128 : Shape := ⟨4, ![1, 2048, 64, 128]⟩
abbrev S_ : Shape := ⟨0, ![]⟩
abbrev S2048x64x128 : Shape := ⟨3, ![2048, 64, 128]⟩
abbrev S2048x8x128 : Shape := ⟨3, ![2048, 8, 128]⟩
abbrev S8x2048x128 : Shape := ⟨3, ![8, 2048, 128]⟩
abbrev S2048x1024 : Shape := ⟨2, ![2048, 1024]⟩
abbrev S512x1024 : Shape := ⟨2, ![512, 1024]⟩
abbrev S1024x128 : Shape := ⟨2, ![1024, 128]⟩
abbrev S1x2048x128 : Shape := ⟨3, ![1, 2048, 128]⟩
abbrev S128x1024 : Shape := ⟨2, ![128, 1024]⟩
abbrev S512x128 : Shape := ⟨2, ![512, 128]⟩
abbrev S2048x128 : Shape := ⟨2, ![2048, 128]⟩
abbrev S512x2048 : Shape := ⟨2, ![512, 2048]⟩
abbrev S512 : Shape := ⟨1, ![512]⟩
abbrev S512x1 : Shape := ⟨2, ![512, 1]⟩
abbrev S7x256x1024 : Shape := ⟨3, ![7, 256, 1024]⟩
abbrev S7 : Shape := ⟨1, ![7]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 39
  | .vmem => 15
  | .smem => 0
  | _ => 0

abbrev bufTy : (tb : Table) → Fin (tcTables nBuf tb) → BufTy
  | .hbm, ⟨0, _⟩ => ⟨S1x2048x1024, .bf16⟩
  | .hbm, ⟨1, _⟩ => ⟨S1024x1024, .bf16⟩
  | .hbm, ⟨2, _⟩ => ⟨S1x2048x64x128, .bf16⟩
  | .hbm, ⟨3, _⟩ => ⟨S1x2048x64x128, .bf16⟩
  | .hbm, ⟨4, _⟩ => ⟨S1024x1024, .bf16⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S2048x64x128, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2048x8x128, .bf16⟩
  | .hbm, ⟨22, _⟩ => ⟨S2048x64x128, .bf16⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i1⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2048x8x128, .bf16⟩
  | .hbm, ⟨33, _⟩ => ⟨S8x2048x128, .bf16⟩
  | .hbm, ⟨34, _⟩ => ⟨S8x2048x128, .bf16⟩
  | .hbm, ⟨35, _⟩ => ⟨S2048x1024, .bf16⟩
  | .hbm, ⟨36, _⟩ => ⟨S2048x1024, .f32⟩
  | .hbm, ⟨37, _⟩ => ⟨S2048x1024, .f32⟩
  | .hbm, ⟨38, _⟩ => ⟨S1x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S1024x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S128x1024, .bf16⟩
  | .local _ .vmem, ⟨9, _⟩ => ⟨S128x1024, .bf16⟩
  | .local _ .vmem, ⟨10, _⟩ => ⟨S512x1024, .f32⟩
  | .local _ .vmem, ⟨11, _⟩ => ⟨S512x1024, .f32⟩
  | .local _ .vmem, ⟨12, _⟩ => ⟨S2048x1024, .f32⟩
  | .local _ .vmem, ⟨13, _⟩ => ⟨S2048x1024, .f32⟩
  | .local _ .vmem, ⟨14, _⟩ => ⟨S7x256x1024, .f32⟩
  | _, _ => ⟨S1x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_c_1 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_c_3 : Ref sig .tc := ⟨.hbm, 16, rfl⟩
abbrev main_v8 : Ref sig .tc := ⟨.hbm, 17, rfl⟩
abbrev main_v9 : Ref sig .tc := ⟨.hbm, 18, rfl⟩
abbrev main_c_4 : Ref sig .tc := ⟨.hbm, 19, rfl⟩
abbrev main_c_5 : Ref sig .tc := ⟨.hbm, 20, rfl⟩
abbrev main_v10 : Ref sig .tc := ⟨.hbm, 21, rfl⟩
abbrev main_v11 : Ref sig .tc := ⟨.hbm, 22, rfl⟩
abbrev main_c_6 : Ref sig .tc := ⟨.hbm, 23, rfl⟩
abbrev main_v12 : Ref sig .tc := ⟨.hbm, 24, rfl⟩
abbrev main_c_7 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev main_c_9 : Ref sig .tc := ⟨.hbm, 30, rfl⟩
abbrev main_c_10 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem1_0 : DmaSem sig := 13
abbrev barrier0 : Sem sig := 0

abbrev nD : Nat := 8
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32_36 : BitVec 32 := 0#32
  let v107 : BitVec 1 := Scalar.cmpi .eq arg1 c0_i32_36
  let v108 : BitVec 32 := Scalar.extui v107
  let c0_i32_37 : BitVec 32 := 0#32
  let v109 : BitVec 1 := Scalar.cmpi .ne v108 c0_i32_37
  v109

def k0_cond2 (i : grid0.Coords) : BitVec 1 :=
  let arg1 : BitVec 32 := BitVec.ofNat 32 (i 1).val
  let c0_i32_38 : BitVec 32 := 0#32
  let v110 : BitVec 1 := Scalar.cmpi .ne arg1 c0_i32_38
  let v111 : BitVec 32 := Scalar.extui v110
  let c0_i32_39 : BitVec 32 := 0#32
  let v112 : BitVec 1 := Scalar.cmpi .ne v111 c0_i32_39
  v112

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := .none

def k1_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k1_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k1_off1 (d0 : Dev nD) (c0_i32_23 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v34 : BitVec 32 := Scalar.addi v2 c16_i32
  let v35 : BitVec 32 := Scalar.subi v34 c0_i32_23
  let c8_i32_24 : BitVec 32 := 8#32
  let c0_i32_25 : BitVec 32 := 0#32
  let v36 : BitVec 1 := Scalar.cmpi .eq c8_i32_24 c0_i32_25
  let c1_i32_26 : BitVec 32 := 1#32
  let v37 : BitVec 32 := Scalar.select v36 c1_i32_26 c8_i32_24
  let v38 : BitVec 32 := Scalar.remsi v35 v37
  let c0_i32_28 : BitVec 32 := 0#32
  let v40 : BitVec 1 := Scalar.cmpi .slt v38 c0_i32_28
  let c0_i32_29 : BitVec 32 := 0#32
  let v41 : BitVec 1 := Scalar.cmpi .slt v37 c0_i32_29
  let v42 : BitVec 1 := Scalar.xori v40 v41
  let c0_i32_27 : BitVec 32 := 0#32
  let v39 : BitVec 1 := Scalar.cmpi .ne v38 c0_i32_27
  let v43 : BitVec 1 := Scalar.andi v42 v39
  let v44 : BitVec 32 := Scalar.addi v38 v37
  let v45 : BitVec 32 := Scalar.select v43 v44 v38
  let c256_i32 : BitVec 32 := 256#32
  let v59 : BitVec 32 := Scalar.muli v45 c256_i32
  let c0_i32_45 : BitVec 32 := 0#32
  ![v59.toNat, 0]
def k1_dev3 (d0 : Dev nD) : Nat :=
  let c0_i32_42 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_41 : BitVec 32 := 1#32
  let v60 : BitVec 32 := Scalar.muli v25 c1_i32_41
  let v61 : BitVec 32 := Scalar.addi c0_i32_42 v60
  v61.toNat
def k1_off2 (d0 : Dev nD) (c0_i32_31 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32_30 : BitVec 32 := 16#32
  let v46 : BitVec 32 := Scalar.addi v2 c16_i32_30
  let v47 : BitVec 32 := Scalar.subi v46 c0_i32_31
  let c1_i32_32 : BitVec 32 := 1#32
  let v48 : BitVec 32 := Scalar.subi v47 c1_i32_32
  let c8_i32_33 : BitVec 32 := 8#32
  let c0_i32_34 : BitVec 32 := 0#32
  let v49 : BitVec 1 := Scalar.cmpi .eq c8_i32_33 c0_i32_34
  let c1_i32_35 : BitVec 32 := 1#32
  let v50 : BitVec 32 := Scalar.select v49 c1_i32_35 c8_i32_33
  let v51 : BitVec 32 := Scalar.remsi v48 v50
  let c0_i32_37 : BitVec 32 := 0#32
  let v53 : BitVec 1 := Scalar.cmpi .slt v51 c0_i32_37
  let c0_i32_38 : BitVec 32 := 0#32
  let v54 : BitVec 1 := Scalar.cmpi .slt v50 c0_i32_38
  let v55 : BitVec 1 := Scalar.xori v53 v54
  let c0_i32_36 : BitVec 32 := 0#32
  let v52 : BitVec 1 := Scalar.cmpi .ne v51 c0_i32_36
  let v56 : BitVec 1 := Scalar.andi v55 v52
  let v57 : BitVec 32 := Scalar.addi v51 v50
  let v58 : BitVec 32 := Scalar.select v56 v57 v51
  let c256_i32_59 : BitVec 32 := 256#32
  let v77 : BitVec 32 := Scalar.muli v58 c256_i32_59
  let v78 : Index := Scalar.indexCast v77
  let c0_60 : Index := 0#32
  ![v78.toNat, 0]
def k1_dev4 (d0 : Dev nD) : Nat :=
  let c0_i32_86 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_85 : BitVec 32 := 1#32
  let v112 : BitVec 32 := Scalar.muli v25 c1_i32_85
  let v113 : BitVec 32 := Scalar.addi c0_i32_86 v112
  v113.toNat
def k1_dev5 (d0 : Dev nD) : Nat :=
  let c0_i32_129 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_128 : BitVec 32 := 1#32
  let v164 : BitVec 32 := Scalar.muli v25 c1_i32_128
  let v165 : BitVec 32 := Scalar.addi c0_i32_129 v164
  v165.toNat
def k1_dev6 (d0 : Dev nD) : Nat :=
  let c0_i32_171 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_170 : BitVec 32 := 1#32
  let v216 : BitVec 32 := Scalar.muli v25 c1_i32_170
  let v217 : BitVec 32 := Scalar.addi c0_i32_171 v216
  v217.toNat
def k1_dev7 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_212 : BitVec 32 := 1#32
  let v268 : BitVec 32 := Scalar.muli v25 c1_i32_212
  let v269 : BitVec 32 := Scalar.addi c0_i32_213 v268
  v269.toNat
def k1_dev8 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_254 : BitVec 32 := 1#32
  let v320 : BitVec 32 := Scalar.muli v25 c1_i32_254
  let v321 : BitVec 32 := Scalar.addi c0_i32_255 v320
  v321.toNat
def k1_dev9 (d0 : Dev nD) : Nat :=
  let c0_i32_297 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_296 : BitVec 32 := 1#32
  let v372 : BitVec 32 := Scalar.muli v25 c1_i32_296
  let v373 : BitVec 32 := Scalar.addi c0_i32_297 v372
  v373.toNat
def k1_off3 (d0 : Dev nD) (c0_i32_321 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_319 : BitVec 32 := 1#32
  let v398 : BitVec 32 := Scalar.addi v2 c1_i32_319
  let c16_i32_320 : BitVec 32 := 16#32
  let v399 : BitVec 32 := Scalar.addi v398 c16_i32_320
  let v400 : BitVec 32 := Scalar.subi v399 c0_i32_321
  let c8_i32_322 : BitVec 32 := 8#32
  let c0_i32_323 : BitVec 32 := 0#32
  let v401 : BitVec 1 := Scalar.cmpi .eq c8_i32_322 c0_i32_323
  let c1_i32_324 : BitVec 32 := 1#32
  let v402 : BitVec 32 := Scalar.select v401 c1_i32_324 c8_i32_322
  let v403 : BitVec 32 := Scalar.remsi v400 v402
  let c0_i32_326 : BitVec 32 := 0#32
  let v405 : BitVec 1 := Scalar.cmpi .slt v403 c0_i32_326
  let c0_i32_327 : BitVec 32 := 0#32
  let v406 : BitVec 1 := Scalar.cmpi .slt v402 c0_i32_327
  let v407 : BitVec 1 := Scalar.xori v405 v406
  let c0_i32_325 : BitVec 32 := 0#32
  let v404 : BitVec 1 := Scalar.cmpi .ne v403 c0_i32_325
  let v408 : BitVec 1 := Scalar.andi v407 v404
  let v409 : BitVec 32 := Scalar.addi v403 v402
  let v410 : BitVec 32 := Scalar.select v408 v409 v403
  let c256_i32_329 : BitVec 32 := 256#32
  let v412 : BitVec 32 := Scalar.muli v410 c256_i32_329
  let c0_i32_333 : BitVec 32 := 0#32
  ![v412.toNat, 0]
def k1_dev10 (d0 : Dev nD) : Nat :=
  let c0_i32_332 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_331 : BitVec 32 := 1#32
  let v413 : BitVec 32 := Scalar.muli v25 c1_i32_331
  let v414 : BitVec 32 := Scalar.addi c0_i32_332 v413
  v414.toNat
def k1_dev11 (d0 : Dev nD) : Nat :=
  let c0_i32_357 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_356 : BitVec 32 := 1#32
  let v442 : BitVec 32 := Scalar.muli v25 c1_i32_356
  let v443 : BitVec 32 := Scalar.addi c0_i32_357 v442
  v443.toNat
def k1_dev12 (d0 : Dev nD) : Nat :=
  let c0_i32_382 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_381 : BitVec 32 := 1#32
  let v471 : BitVec 32 := Scalar.muli v25 c1_i32_381
  let v472 : BitVec 32 := Scalar.addi c0_i32_382 v471
  v472.toNat
def k1_dev13 (d0 : Dev nD) : Nat :=
  let c0_i32_407 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_406 : BitVec 32 := 1#32
  let v500 : BitVec 32 := Scalar.muli v25 c1_i32_406
  let v501 : BitVec 32 := Scalar.addi c0_i32_407 v500
  v501.toNat
def k1_dev14 (d0 : Dev nD) : Nat :=
  let c0_i32_432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_431 : BitVec 32 := 1#32
  let v529 : BitVec 32 := Scalar.muli v25 c1_i32_431
  let v530 : BitVec 32 := Scalar.addi c0_i32_432 v529
  v530.toNat
def k1_dev15 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_456 : BitVec 32 := 1#32
  let v558 : BitVec 32 := Scalar.muli v25 c1_i32_456
  let v559 : BitVec 32 := Scalar.addi c0_i32_457 v558
  v559.toNat
def k1_dev16 (d0 : Dev nD) : Nat :=
  let c0_i32_482 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_481 : BitVec 32 := 1#32
  let v587 : BitVec 32 := Scalar.muli v25 c1_i32_481
  let v588 : BitVec 32 := Scalar.addi c0_i32_482 v587
  v588.toNat
abbrev stage1_0 : Fin 1 → Memref sig .tc .vmem S2048x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S1x2048x1024 : Shape := ⟨3, ![1, 2048, 1024]⟩
abbrev S1024x8192 : Shape := ⟨2, ![1024, 8192]⟩
abbrev S1x2048x64x128 : Shape := ⟨4, ![1, 2048, 64, 128]⟩
abbrev S8192x1024 : Shape := ⟨2, ![8192, 1024]⟩
abbrev S1x2048x8192 : Shape := ⟨3, ![1, 2048, 8192]⟩
abbrev S2048 : Shape := ⟨1, ![2048]⟩
abbrev S_ : Shape := ⟨0, ![]⟩
abbrev S2048x1 : Shape := ⟨2, ![2048, 1]⟩
abbrev S1x2048 : Shape := ⟨2, ![1, 2048]⟩
abbrev S2048x2048 : Shape := ⟨2, ![2048, 2048]⟩
abbrev S1x64x2048x2048 : Shape := ⟨4, ![1, 64, 2048, 2048]⟩
abbrev S1x1x2048x2048 : Shape := ⟨4, ![1, 1, 2048, 2048]⟩
abbrev S1x64x2048 : Shape := ⟨3, ![1, 64, 2048]⟩
abbrev S1x64x2048x1 : Shape := ⟨4, ![1, 64, 2048, 1]⟩
abbrev S1x1x2048x1 : Shape := ⟨4, ![1, 1, 2048, 1]⟩
abbrev S1x64x128x2048 : Shape := ⟨4, ![1, 64, 128, 2048]⟩

abbrev nBuf : Space → Nat
  | .hbm => 128
  | .vmem => 0
  | .smem => 0
  | _ => 0

abbrev bufTy : (tb : Table) → Fin (tcTables nBuf tb) → BufTy
  | .hbm, ⟨0, _⟩ => ⟨S1x2048x1024, .bf16⟩
  | .hbm, ⟨1, _⟩ => ⟨S1024x8192, .bf16⟩
  | .hbm, ⟨2, _⟩ => ⟨S1x2048x64x128, .bf16⟩
  | .hbm, ⟨3, _⟩ => ⟨S1x2048x64x128, .bf16⟩
  | .hbm, ⟨4, _⟩ => ⟨S8192x1024, .bf16⟩
  | .hbm, ⟨5, _⟩ => ⟨S1x2048x8192, .f32⟩
  | .hbm, ⟨6, _⟩ => ⟨S1x2048x8192, .bf16⟩
  | .hbm, ⟨7, _⟩ => ⟨S1x2048x64x128, .bf16⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048x1, .i32⟩
  | .hbm, ⟨28, _⟩ => ⟨S2048, .i32⟩
  | .hbm, ⟨29, _⟩ => ⟨S_, .i32⟩
  | .hbm, ⟨30, _⟩ => ⟨S_, .i32⟩
  | .hbm, ⟨31, _⟩ => ⟨S2048, .i32⟩
  | .hbm, ⟨32, _⟩ => ⟨S2048, .i32⟩
  | .hbm, ⟨33, _⟩ => ⟨S2048, .i32⟩
  | .hbm, ⟨34, _⟩ => ⟨S_, .i32⟩
  | .hbm, ⟨35, _⟩ => ⟨S2048, .i32⟩
  | .hbm, ⟨36, _⟩ => ⟨S2048, .i1⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S2048, .i1⟩
  | .hbm, ⟨43, _⟩ => ⟨S_, .i32⟩
  | .hbm, ⟨44, _⟩ => ⟨S2048, .i32⟩
  | .hbm, ⟨45, _⟩ => ⟨S2048, .i32⟩
  | .hbm, ⟨46, _⟩ => ⟨S2048, .i32⟩
  | .hbm, ⟨47, _⟩ => ⟨S1x2048, .i32⟩
  | .hbm, ⟨48, _⟩ => ⟨S2048x2048, .i32⟩
  | .hbm, ⟨49, _⟩ => ⟨S2048x2048, .i32⟩
  | .hbm, ⟨50, _⟩ => ⟨S2048x2048, .i1⟩
  | .hbm, ⟨51, _⟩ => ⟨S_, .i32⟩
  | .hbm, ⟨52, _⟩ => ⟨S1x2048, .i32⟩
  | .hbm, ⟨53, _⟩ => ⟨S1x2048, .i1⟩
  | .hbm, ⟨54, _⟩ => ⟨S2048x2048, .i1⟩
  | .hbm, ⟨55, _⟩ => ⟨S2048x2048, .i1⟩
  | .hbm, ⟨56, _⟩ => ⟨S2048x2048, .i32⟩
  | .hbm, ⟨57, _⟩ => ⟨S2048x2048, .i32⟩
  | .hbm, ⟨58, _⟩ => ⟨S2048x2048, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S_, .i32⟩
  | .hbm, ⟨64, _⟩ => ⟨S_, .i32⟩
  | .hbm, ⟨65, _⟩ => ⟨S2048x2048, .i32⟩
  | .hbm, ⟨66, _⟩ => ⟨S2048x2048, .i32⟩
  | .hbm, ⟨67, _⟩ => ⟨S_, .i32⟩
  | .hbm, ⟨68, _⟩ => ⟨S2048x2048, .i32⟩
  | .hbm, ⟨69, _⟩ => ⟨S2048x2048, .i1⟩
  | .hbm, ⟨70, _⟩ => ⟨S_, .i32⟩
  | .hbm, ⟨71, _⟩ => ⟨S2048x2048, .i32⟩
  | .hbm, ⟨72, _⟩ => ⟨S2048x2048, .i1⟩
  | .hbm, ⟨73, _⟩ => ⟨S_, .i32⟩
  | .hbm, ⟨74, _⟩ => ⟨S_, .i1⟩
  | .hbm, ⟨75, _⟩ => ⟨S2048x2048, .i1⟩
  | .hbm, ⟨76, _⟩ => ⟨S2048x2048, .i1⟩
  | .hbm, ⟨77, _⟩ => ⟨S2048x2048, .i1⟩
  | .hbm, ⟨78, _⟩ => ⟨S2048x2048, .i32⟩
  | .hbm, ⟨79, _⟩ => ⟨S2048x2048, .i32⟩
  | .hbm, ⟨80, _⟩ => ⟨S2048x2048, .i32⟩
  | .hbm, ⟨81, _⟩ => ⟨S_, .i32⟩
  | .hbm, ⟨82, _⟩ => ⟨S2048x2048, .i32⟩
  | .hbm, ⟨83, _⟩ => ⟨S2048x2048, .i1⟩
  | .hbm, ⟨84, _⟩ => ⟨S2048x2048, .i1⟩
  | .hbm, ⟨85, _⟩ => ⟨S1x64x2048x2048, .f32⟩
  | .hbm, ⟨86, _⟩ => ⟨S1x64x2048x2048, .bf16⟩
  | .hbm, ⟨87, _⟩ => ⟨S1x64x2048x2048, .f32⟩
  | .hbm, ⟨88, _⟩ => ⟨S_, .f32⟩
  | .hbm, ⟨89, _⟩ => ⟨S1x64x2048x2048, .f32⟩
  | .hbm, ⟨90, _⟩ => ⟨S1x64x2048x2048, .f32⟩
  | .hbm, ⟨91, _⟩ => ⟨S1x1x2048x2048, .i1⟩
  | .hbm, ⟨92, _⟩ => ⟨S_, .f32⟩
  | .hbm, ⟨93, _⟩ => ⟨S_, .f32⟩
  | .hbm, ⟨94, _⟩ => ⟨S1x64x2048x2048, .i1⟩
  | .hbm, ⟨95, _⟩ => ⟨S1x64x2048x2048, .f32⟩
  | .hbm, ⟨96, _⟩ => ⟨S1x64x2048x2048, .f32⟩
  | .hbm, ⟨97, _⟩ => ⟨S_, .f32⟩
  | .hbm, ⟨98, _⟩ => ⟨S1x64x2048, .f32⟩
  | .hbm, ⟨99, _⟩ => ⟨S1x64x2048x1, .f32⟩
  | .hbm, ⟨100, _⟩ => ⟨S1x64x2048x2048, .f32⟩
  | .hbm, ⟨101, _⟩ => ⟨S1x64x2048x2048, .f32⟩
  | .hbm, ⟨102, _⟩ => ⟨S1x64x2048x2048, .f32⟩
  | .hbm, ⟨103, _⟩ => ⟨S_, .i1⟩
  | .hbm, ⟨104, _⟩ => ⟨S2048, .i1⟩
  | .hbm, ⟨105, _⟩ => ⟨S1x1x2048x1, .i1⟩
  | .hbm, ⟨106, _⟩ => ⟨S_, .f32⟩
  | .hbm, ⟨107, _⟩ => ⟨S1x64x2048, .f32⟩
  | .hbm, ⟨108, _⟩ => ⟨S1x64x2048x1, .f32⟩
  | .hbm, ⟨109, _⟩ => ⟨S_, .f32⟩
  | .hbm, ⟨110, _⟩ => ⟨S_, .f32⟩
  | .hbm, ⟨111, _⟩ => ⟨S1x64x2048x1, .i1⟩
  | .hbm, ⟨112, _⟩ => ⟨S1x64x2048x1, .f32⟩
  | .hbm, ⟨113, _⟩ => ⟨S1x64x2048x1, .f32⟩
  | .hbm, ⟨114, _⟩ => ⟨S1x64x2048x2048, .f32⟩
  | .hbm, ⟨115, _⟩ => ⟨S1x64x2048x2048, .f32⟩
  | .hbm, ⟨116, _⟩ => ⟨S1x1x2048x1, .i1⟩
  | .hbm, ⟨117, _⟩ => ⟨S_, .f32⟩
  | .hbm, ⟨118, _⟩ => ⟨S_, .f32⟩
  | .hbm, ⟨119, _⟩ => ⟨S1x64x2048x2048, .i1⟩
  | .hbm, ⟨120, _⟩ => ⟨S1x64x2048x2048, .f32⟩
  | .hbm, ⟨121, _⟩ => ⟨S1x64x2048x2048, .f32⟩
  | .hbm, ⟨122, _⟩ => ⟨S1x2048x64x128, .f32⟩
  | .hbm, ⟨123, _⟩ => ⟨S1x64x128x2048, .f32⟩
  | .hbm, ⟨124, _⟩ => ⟨S1x2048x64x128, .f32⟩
  | .hbm, ⟨125, _⟩ => ⟨S1x2048x8192, .f32⟩
  | .hbm, ⟨126, _⟩ => ⟨S8192x1024, .f32⟩
  | .hbm, ⟨127, _⟩ => ⟨S1x2048x1024, .f32⟩
  | _, _ => ⟨S1x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_c_2 : Ref sig .tc := ⟨.hbm, 59, rfl⟩
abbrev main_call2_v0 : Ref sig .tc := ⟨.hbm, 60, rfl⟩
abbrev main_call2_c : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_c_1 : Ref sig .tc := ⟨.hbm, 67, rfl⟩
abbrev main_call2_v5 : Ref sig .tc := ⟨.hbm, 68, rfl⟩
abbrev main_call2_v6 : Ref sig .tc := ⟨.hbm, 69, rfl⟩
abbrev main_call2_c_2 : Ref sig .tc := ⟨.hbm, 70, rfl⟩
abbrev main_call2_v7 : Ref sig .tc := ⟨.hbm, 71, rfl⟩
abbrev main_call2_v8 : Ref sig .tc := ⟨.hbm, 72, rfl⟩
abbrev main_call2_c_3 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_v19 : Ref sig .tc := ⟨.hbm, 80, rfl⟩
abbrev main_c_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_v25 : Ref sig .tc := ⟨.hbm, 87, rfl⟩
abbrev main_cst : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_cst_4 : Ref sig .tc := ⟨.hbm, 92, rfl⟩
abbrev main_call3_v0 : Ref sig .tc := ⟨.hbm, 93, rfl⟩
abbrev main_call3_v1 : Ref sig .tc := ⟨.hbm, 94, rfl⟩
abbrev main_call3_v2 : Ref sig .tc := ⟨.hbm, 95, rfl⟩
abbrev main_v29 : Ref sig .tc := ⟨.hbm, 96, rfl⟩
abbrev main_cst_5 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_c_6 : Ref sig .tc := ⟨.hbm, 103, rfl⟩
abbrev main_v35 : Ref sig .tc := ⟨.hbm, 104, rfl⟩
abbrev main_v36 : Ref sig .tc := ⟨.hbm, 105, rfl⟩
abbrev main_cst_7 : Ref sig .tc := ⟨.hbm, 106, rfl⟩
abbrev main_v37 : Ref sig .tc := ⟨.hbm, 107, rfl⟩
abbrev main_v38 : Ref sig .tc := ⟨.hbm, 108, rfl⟩
abbrev main_cst_8 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_cst_9 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_v43 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.RingDefs.lean ====
/-
  The all-reduce ring of eight devices, as the proof names it: the devices around the ring, the eight row chunks of the
  accumulator and the seven landing slots, the semaphore cells, what each chunk holds on its way round, and the facts
  that the program's computed device numbers and offsets are these.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Rounds
public import Idealize.ShloMosaic.Lib.Ring
public import Idealize.ShloMosaic.Lib.ViewIndex
public import Idealize.ShloMosaic.Lib.Exec.Geometry
public import Idealize.ShloMosaic.Lib.Pipeline.Value
public import Idealize.ShloMosaic.Lib.Pipeline.RegionTalk
public import Idealize.SL.BI.BigOpNat

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The resource algebra: the pipeline's copy and the ring's, whose duties are named by a bit -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Round the ring -/

/-- The device `j` places to the right of `c`. -/
def up (c : Dev nD) (j : ℕ) : Dev nD := ⟨(c.val + j) % 8, Nat.mod_lt _ (by decide)⟩
/-- The device `j` places to the left of `c`, for `j ≤ 16`. -/
def dn (c : Dev nD) (j : ℕ) : Dev nD := ⟨(c.val + (16 - j)) % 8, Nat.mod_lt _ (by decide)⟩

theorem up_val (c : Dev nD) (j : ℕ) : (up c j).val = (c.val + j) % 8 := rfl
theorem dn_val (c : Dev nD) (j : ℕ) : (dn c j).val = (c.val + (16 - j)) % 8 := rfl

/-- An equation between places on the ring is one between numbers below eight. -/
theorem dev_ext {a b : Dev nD} (h : a.val = b.val) : a = b := Fin.ext h

theorem up_dn (c : Dev nD) (j : ℕ) (hj : j ≤ 16) : up (dn c j) j = c :=
  dev_ext (by have : c.val < 8 := c.isLt; simp only [up_val, dn_val]; omega)
theorem dn_up (c : Dev nD) (j : ℕ) (hj : j ≤ 16) : dn (up c j) j = c :=
  dev_ext (by have : c.val < 8 := c.isLt; simp only [up_val, dn_val]; omega)
theorem dn_up1 (c : Dev nD) (s : ℕ) (hs : s ≤ 15) : dn (up c 1) (s + 1) = dn c s :=
  dev_ext (by have : c.val < 8 := c.isLt; simp only [up_val, dn_val]; omega)
theorem up_dn_up1 (c : Dev nD) (s : ℕ) (hs : s ≤ 16) : up (dn (up c 1) s) s = up c 1 :=
  up_dn _ _ hs
theorem dn_zero (c : Dev nD) : dn c 0 = c := dev_ext (by have : c.val < 8 := c.isLt; simp only [dn_val]; omega)
theorem dn_seven (c : Dev nD) : dn c 7 = up c 1 := dev_ext (by have : c.val < 8 := c.isLt; simp only [up_val, dn_val]; omega)
theorem up_zero (c : Dev nD) : up c 0 = c := dev_ext (by have : c.val < 8 := c.isLt; simp only [up_val]; omega)

/-- The ring's turn by one place. -/
def turn : Dev nD ≃ Dev nD := ⟨fun c => up c 1, fun c => dn c 1, fun c => dn_up c 1 (by decide), fun c => up_dn c 1 (by decide)⟩

/-! ## What the program computes from its device number -/

theorem dev1_eq : ∀ c : Dev nD, (⟨k1_dev1 c, k1_dev1_lt c⟩ : Dev nD) = dn c 1 := by decide +kernel
theorem dev2_eq : ∀ c : Dev nD, (⟨k1_dev2 c, k1_dev2_lt c⟩ : Dev nD) = up c 1 := by decide +kernel
theorem dev3_eq : ∀ c : Dev nD, (⟨k1_dev3 c, k1_dev3_lt c⟩ : Dev nD) = up c 1 := by decide +kernel
theorem dev4_eq : ∀ c : Dev nD, (⟨k1_dev4 c, k1_dev4_lt c⟩ : Dev nD) = up c 1 := by decide +kernel
theorem dev5_eq : ∀ c : Dev nD, (⟨k1_dev5 c, k1_dev5_lt c⟩ : Dev nD) = up c 1 := by decide +kernel
theorem dev6_eq : ∀ c : Dev nD, (⟨k1_dev6 c, k1_dev6_lt c⟩ : Dev nD) = up c 1 := by decide +kernel
theorem dev7_eq : ∀ c : Dev nD, (⟨k1_dev7 c, k1_dev7_lt c⟩ : Dev nD) = up c 1 := by decide +kernel
theorem dev8_eq : ∀ c : Dev nD, (⟨k1_dev8 c, k1_dev8_lt c⟩ : Dev nD) = up c 1 := by decide +kernel
theorem dev9_eq : ∀ c : Dev nD, (⟨k1_dev9 c, k1_dev9_lt c⟩ : Dev nD) = up c 1 := by decide +kernel
theorem dev10_eq : ∀ c : Dev nD, (⟨k1_dev10 c, k1_dev10_lt c⟩ : Dev nD) = up c 1 := by decide +kernel
theorem dev11_eq : ∀ c : Dev nD, (⟨k1_dev11 c, k1_dev11_lt c⟩ : Dev nD) = up c 1 := by decide +kernel
theorem dev12_eq : ∀ c : Dev nD, (⟨k1_dev12 c, k1_dev12_lt c⟩ : Dev nD) = up c 1 := by decide +kernel
theorem dev13_eq : ∀ c : Dev nD, (⟨k1_dev13 c, k1_dev13_lt c⟩ : Dev nD) = up c 1 := by decide +kernel
theorem dev14_eq : ∀ c : Dev nD, (⟨k1_dev14 c, k1_dev14_lt c⟩ : Dev nD) = up c 1 := by decide +kernel
theorem dev15_eq : ∀ c : Dev nD, (⟨k1_dev15 c, k1_dev15_lt c⟩ : Dev nD) = up c 1 := by decide +kernel
theorem dev16_eq : ∀ c : Dev nD, (⟨k1_dev16 c, k1_dev16_lt c⟩ : Dev nD) = up c 1 := by decide +kernel

/-- The first row of chunk `k`, and column zero. -/
def chOff (k : Dev nD) : Fin 2 → ℕ := ![256 * k.val, 0]
theorem chInb (k : Dev nD) : ∀ a, chOff k a + S256x1024.size a ≤ S2048x1024.size a := by revert k; decide +kernel

theorem off1_eq (c : Dev nD) (s : ℕ) (hs : s < 7) : k1_off1 c (BitVec.ofNat 32 s) = chOff (dn c s) := by
  have h : ∀ (c : Dev nD) (s : Fin 7), k1_off1 c (BitVec.ofNat 32 s.val) = chOff (dn c s.val) := by decide +kernel
  exact h c ⟨s, hs⟩
theorem off2_eq (c : Dev nD) (s : ℕ) (hs : s < 7) : k1_off2 c (BitVec.ofNat 32 s) = chOff (dn c (s + 1)) := by
  have h : ∀ (c : Dev nD) (s : Fin 7), k1_off2 c (BitVec.ofNat 32 s.val) = chOff (dn c (s.val + 1)) := by decide +kernel
  exact h c ⟨s, hs⟩
theorem off3_eq (c : Dev nD) (s : ℕ) (hs : s < 7) : k1_off3 c (BitVec.ofNat 32 s) = chOff (dn (up c 1) s) := by
  have h : ∀ (c : Dev nD) (s : Fin 7), k1_off3 c (BitVec.ofNat 32 s.val) = chOff (dn (up c 1) s.val) := by decide +kernel
  exact h c ⟨s, hs⟩

/-! ## The memrefs -/

abbrev pM : Memref sig .tc .vmem S2048x1024 .f32 := Memref.whole cc1_stg0_0
abbrev aM : Memref sig .tc .vmem S2048x1024 .f32 := Memref.whole cc1_stg1_0
abbrev wM : Memref sig .tc .vmem S7x256x1024 .f32 := Memref.whole cc1_scratch0

/-- Chunk `k` of the accumulator. -/
abbrev chR (k : Dev nD) : Rect S2048x1024 := Rect.unit (s := S2048x1024) (chOff k) S256x1024.size (chInb k)
abbrev chM (k : Dev nD) : Memref sig .tc .vmem S256x1024 .f32 := aM.slice (chR k) (fun _ => rfl)

/-- The offset of landing slot `s`. -/
def slOff (s : ℕ) : Fin 3 → ℕ := ![s % 7, 0, 0]
theorem slInb (s : ℕ) : ∀ a, slOff s a + S1x256x1024.size a ≤ S7x256x1024.size a := fun a => by
  have := Nat.mod_lt s (show 0 < 7 by decide)
  match a with
  | ⟨0, _⟩ => show s % 7 + 1 ≤ 7; omega
  | ⟨1, _⟩ => show 0 + 256 ≤ 256; omega
  | ⟨2, _⟩ => show 0 + 1024 ≤ 1024; omega
abbrev slR (s : ℕ) : Rect S7x256x1024 := Rect.unit (s := S7x256x1024) (slOff s) S1x256x1024.size (slInb s)
abbrev slM (s : ℕ) : Memref sig .tc .vmem S256x1024 .f32 :=
  (wM.slice (slR s) (fun _ => rfl)).squeeze S256x1024 squeezes_S1x256x1024_S256x1024

/-! ## The cells -/

abbrev barS : Sem sig := (SemArray.scalar (sig.barrier 0 rfl) : Sems sig S_).sem
abbrev sndS : DmaSem sig := (14 : Fin 29)
def rsS (s : ℕ) : DmaSem sig := (⟨15 + s % 7, by have := Nat.mod_lt s (show 0 < 7 by decide); omega⟩ : Fin 29)
def agS (s : ℕ) : DmaSem sig := (⟨22 + s % 7, by have := Nat.mod_lt s (show 0 < 7 by decide); omega⟩ : Fin 29)

abbrev barC (c : Dev nD) : GSem nD τ sig := ((c : Thread nD τ), .reg barS)
abbrev sndC (c : Dev nD) : GSem nD τ sig := ((c : Thread nD τ), .dma sndS)
abbrev rsC (c : Dev nD) (s : ℕ) : GSem nD τ sig := ((c : Thread nD τ), .dma (rsS s))
abbrev agC (c : Dev nD) (s : ℕ) : GSem nD τ sig := ((c : Thread nD τ), .dma (agS s))

theorem sndS_eq : (cc1_scratch1 : DmaSems sig S_).sem = sndS := by decide +kernel
theorem rsS_eq : ∀ s : Fin 7, ∀ h : ∀ a, (![s.val] : Fin 1 → Nat) a + S1.size a ≤ S7.size a,
    (((cc1_scratch2 : DmaSems sig S7).slice (Rect.unit (s := S7) ![s.val] S1.size h)).squeeze S_ squeezes_S1_S_).sem = rsS s.val := by
  decide +kernel
theorem agS_eq : ∀ s : Fin 7, ∀ h : ∀ a, (![s.val] : Fin 1 → Nat) a + S1.size a ≤ S7.size a,
    (((cc1_scratch3 : DmaSems sig S7).slice (Rect.unit (s := S7) ![s.val] S1.size h)).squeeze S_ squeezes_S1_S_).sem = agS s.val := by
  decide +kernel

/-- The credit of one chunk's transfer. -/
abbrev N : ℕ := (chM 0).view.dmaCredit
theorem N_pos : 0 < N := View.dmaCredit_pos _ (by decide)
theorem chN (k : Dev nD) : (chM k).view.dmaCredit = N := rfl
theorem slN (s : ℕ) : (slM s).view.dmaCredit = N := rfl

/-! ## Contents -/

/-- Contents of a whole accumulator buffer. -/
abbrev Arr (F : FTy → Type) : Type := FVec F S2048x1024 .f32

variable (P : Dev nD → Arr F)

/-- What chunk `k` holds after `j` additions on its way round: device `k`'s addend first, each device to the right
    adding its own in front. -/
def acc (k : Dev nD) : ℕ → Arr F
  | 0 => P k
  | j + 1 => addf (P (up k (j + 1))) (acc k j)

/-- The finished array: each row from its own chunk's round trip. -/
def total : Arr F := fun i => acc P ⟨(i 0).val / 256, Nat.div_lt_of_lt_mul (show (i 0).val < 256 * 8 from (i 0).isLt)⟩ 7 i

abbrev chP (d k : Dev nD) (f : Arr F) : sProp 𝕄 :=
  (chM k).view.loc (d : Thread nD τ) ↦[(chM k).view.set]{fullShare} f
abbrev slP (d : Dev nD) (s : ℕ) (f : FVec F S7x256x1024 .f32) : sProp 𝕄 :=
  (slM s).view.loc (d : Thread nD τ) ↦[(slM s).view.set]{fullShare} f

/-- The chunks travelling with chunk `k` back along the ring: on each device passed, the chunk as it was sent on. -/
def trav (k : Dev nD) (lo hi : ℕ) : sProp 𝕄 := bigSep (Finset.Ico lo hi) fun j => chP (up k j) k (acc P k j)

theorem trav_bot (k : Dev nD) {lo hi : ℕ} (h : lo < hi) : trav P k lo hi = iprop(chP (up k lo) k (acc P k lo) ∗ trav P k (lo + 1) hi) :=
  bigSep_Ico_succ_bot h _
theorem trav_top (k : Dev nD) {lo hi : ℕ} (h : lo ≤ hi) : trav P k lo (hi + 1) = iprop(chP (up k hi) k (acc P k hi) ∗ trav P k lo hi) :=
  bigSep_Ico_succ_top h _

/-- What the landing slot reads after chunk `k` has landed in it, as the load of the slot sees it. -/
def landed (k : Dev nD) (j : ℕ) : Vec F S1x256x1024 .f32 :=
  shapeCast S1x256x1024 ((chM k).view.read (Elt F) (acc P k j) : Vec F S256x1024 .f32) (by decide)

theorem slot_read (s : ℕ) (f : FVec F S7x256x1024 .f32) (w : S256x1024.Idx → Elt F .f32) :
    (wM.access (slR s)).read (Elt F) ((slM s).view.write (Elt F) f w Finset.univ) = shapeCast S1x256x1024 w (by decide) := by
  funext x
  have h1 : S256x1024.numel = S1x256x1024.numel := by decide
  have h := View.read_write_reshape (Val := Elt F) (wM.access (slR s)) (s' := S256x1024) h1 f w (Shape.reshapeEquiv h1.symm x)
  rw [Shape.reshapeEquiv_reshapeEquiv, Shape.reshapeEquiv_self] at h
  exact h

/-- Reading a chunk of a sum is adding the two read chunks. -/
theorem read_addf (k : Dev nD) (f g : Arr F) (x : S256x1024.Idx) :
    (chM k).view.read (Elt F) (addf f g) x
      = addf (F := F) ((chM k).view.read (Elt F) f : FVec F S256x1024 .f32) ((chM k).view.read (Elt F) g : FVec F S256x1024 .f32) x := rfl

/-- Adding the landed chunk to the device's own gives the chunk's next contents. -/
theorem add_landed (c : Dev nD) (s : ℕ) (hs : s < 7) (i : (chM (dn c (s + 1))).view.ty.Idx) (hi : i ∈ (chM (dn c (s + 1))).view.set)
    (h1 : S256x1024.ShapeCasts S256x1024) (h2 : S1x256x1024.ShapeCasts S256x1024) :
    (aM.access (chR (dn c (s + 1)))).write (Elt F) (P c)
        (addf (shapeCast S256x1024 ((aM.access (chR (dn c (s + 1)))).read (Elt F) (P c) : Vec F S256x1024 .f32) h1) (shapeCast S256x1024 (landed P (dn c (s + 1)) s) h2)) Finset.univ i
      = acc P (dn c (s + 1)) (s + 1) i := by
  obtain ⟨x, -, rfl⟩ := Finset.mem_map.mp hi
  refine View.eq_of_read_eq (v := aM.access (chR (dn c (s + 1)))) ?_
  rw [View.read_write_of_mem _ _ (Finset.mem_univ x)]
  have e1 := shapeCast_self (s := S256x1024) ((chM (dn c (s + 1))).view.read (Elt F) (P c) : Vec F S256x1024 .f32) h1
  have e2 := shapeCast_shapeCast (s := S256x1024) (t := S1x256x1024)
    ((chM (dn c (s + 1))).view.read (Elt F) (acc P (dn c (s + 1)) s) : Vec F S256x1024 .f32) (by decide) h2
  have e3 : addf (F := F) ((chM (dn c (s + 1))).view.read (Elt F) (P c) : FVec F S256x1024 .f32)
      ((chM (dn c (s + 1))).view.read (Elt F) (acc P (dn c (s + 1)) s) : FVec F S256x1024 .f32) x
      = (chM (dn c (s + 1))).view.read (Elt F) (acc P (dn c (s + 1)) (s + 1)) x := by
    rw [acc, up_dn c (s + 1) (by omega)]
    exact (read_addf _ _ _ x).symm
  rw [← e3]
  exact congrFun (congrArg₂ (addf (F := F) (s := S256x1024) (φ := .f32)) e1 e2) x

end Cert.KernelIdeal.Talk

end
-- ==== Proof.RingProto.lean ====
/-
  The all-reduce ring's protocol: which semaphore units are paid by whom and what they hand over, what each device owes
  at launch, the order of the waits, and the state a device is in before every step of the reduce-scatter and of the
  all-gather.

  A device's signal to its left neighbour hands over the device's seven landing slots. A reduce-scatter transfer hands
  the landing device its rewritten slot TOGETHER with the sender's own copy of the chunk, and with the copies every
  earlier device on the chunk's way gave up; the last device on the way thus holds the chunk's rows on every device, and
  the all-gather transfer that overwrites them next door takes them from there.
-/
module

public import proofs.«01_k».proof.Proof.RingDefs
public import Mathlib.Algebra.BigOperators.Intervals

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (P : Dev nD → Arr F)

/-! ## The cells, numbered -/

/-- Cell 0 is the barrier's, cell 1 the send semaphore's, 2–8 the reduce-scatter receive semaphores', 9–15 the
    all-gather receive semaphores'. -/
def csem (j : Fin 16) : SemLoc sig := if j.val = 0 then .reg barS else .dma (⟨13 + j.val, by have := j.isLt; omega⟩ : Fin 29)
theorem csem_injective : Function.Injective csem := by decide +kernel
def cellAt (p : Dev nD × Fin 16) : GSem nD τ sig := ((p.1 : Thread nD τ), csem p.2)
theorem cellAt_injective : Function.Injective cellAt := fun p q h => by
  have h1 : (p.1 : Thread nD τ) = q.1 := congrArg Prod.fst h
  have h2 : csem p.2 = csem q.2 := congrArg Prod.snd h
  exact Prod.ext (by injection h1) (csem_injective h2)
/-- Every device's barrier cell. -/
def barCells : Finset (GSem nD τ sig) := Finset.univ.map ⟨fun c : Dev nD => cellAt (c, 0), fun a b h => congrArg Prod.fst (cellAt_injective h)⟩
/-- Every device's transfer cells. -/
def dmaCells : Finset (GSem nD τ sig) :=
  Finset.univ.map ⟨fun p : Dev nD × Fin 15 => cellAt (p.1, p.2.succ), fun a b h => by
    have h' := cellAt_injective (show cellAt (a.1, a.2.succ) = cellAt (b.1, b.2.succ) from h)
    exact Prod.ext (Prod.mk.inj h').1 (Fin.succ_injective _ (Prod.mk.inj h').2)⟩

theorem barC_mem (c : Dev nD) : barC c ∈ barCells := Finset.mem_map.mpr ⟨c, Finset.mem_univ _, rfl⟩
theorem sndC_mem (c : Dev nD) : sndC c ∈ dmaCells := Finset.mem_map.mpr ⟨(c, 0), Finset.mem_univ _, rfl⟩
theorem csem_rs (s : ℕ) (h : 1 + s % 7 + 1 < 16) : csem ⟨1 + s % 7 + 1, h⟩ = .dma (rsS s) := by
  unfold csem
  rw [if_neg (show ¬ 1 + s % 7 + 1 = 0 by omega)]
  exact congrArg SemLoc.dma (Fin.ext (show 13 + (1 + s % 7 + 1) = 15 + s % 7 by omega))
theorem csem_ag (s : ℕ) (h : 8 + s % 7 + 1 < 16) : csem ⟨8 + s % 7 + 1, h⟩ = .dma (agS s) := by
  unfold csem
  rw [if_neg (show ¬ 8 + s % 7 + 1 = 0 by omega)]
  exact congrArg SemLoc.dma (Fin.ext (show 13 + (8 + s % 7 + 1) = 22 + s % 7 by omega))
theorem rsC_mem (c : Dev nD) (s : ℕ) : rsC c s ∈ dmaCells :=
  Finset.mem_map.mpr ⟨(c, ⟨1 + s % 7, by have := Nat.mod_lt s (show 0 < 7 by decide); omega⟩), Finset.mem_univ _,
    congrArg (fun x => ((c : Thread nD τ), x)) (csem_rs s _)⟩
theorem agC_mem (c : Dev nD) (s : ℕ) : agC c s ∈ dmaCells :=
  Finset.mem_map.mpr ⟨(c, ⟨8 + s % 7, by have := Nat.mod_lt s (show 0 < 7 by decide); omega⟩), Finset.mem_univ _,
    congrArg (fun x => ((c : Thread nD τ), x)) (csem_ag s _)⟩
theorem cells_disjoint : Disjoint barCells dmaCells := by
  rw [Finset.disjoint_left]
  intro g h h'
  obtain ⟨c, -, rfl⟩ := Finset.mem_map.mp h
  obtain ⟨p, -, h2⟩ := Finset.mem_map.mp h'
  have h3 := congrArg Prod.snd (cellAt_injective h2)
  exact absurd (congrArg Fin.val h3) (by simp)

/-! ## What the units hand over -/

/-- From the right neighbour: its landing slots, and that its receive cells are open. -/
def barPay (c : Dev nD) : sProp 𝕄 :=
  bigSep (Finset.Ico 0 7) fun s => iprop((∃ f, slP (F := F) (up c 1) s f) ∗ reached ER (rsC (up c 1) s) 0 ∗ reached ER (agC (up c 1) s) 0)
/-- Slot `s` of `c` rewritten by what chunk `c − s − 1` holds after `s` additions. -/
abbrev slotAt (c : Dev nD) (s : ℕ) (f : FVec F S7x256x1024 .f32) : sProp 𝕄 :=
  slP c s ((slM s).view.write (Elt F) f ((chM (dn c (s + 1))).view.read (Elt F) (acc P (dn c (s + 1)) s)) Finset.univ)
def rsPay (c : Dev nD) (s : ℕ) : sProp 𝕄 := iprop((∃ f, slotAt P c s f) ∗ trav P (dn c (s + 1)) 0 (s + 1))
def agPay (c : Dev nD) (s : ℕ) : sProp 𝕄 := iprop(chP c (dn c s) (acc P (dn c s) 7) ∗ trav P (dn c s) (s + 1) 7)
def sndPay (c : Dev nD) (r : ℕ) : sProp 𝕄 :=
  if r < 7 then iprop(emp) else chP c (dn (up c 1) (r - 7)) (acc P (dn (up c 1) (r - 7)) 7)

def semDuties (g : SemLoc sig) (r : ℕ) : Finset Bool := match g with
  | .reg _ => if r = 0 then Finset.univ else ∅
  | .dma s => if s.val = 14 then (if r < 14 then {false} else ∅) else if 14 < s.val ∧ r = 0 then {false} else ∅
def semPay (c : Dev nD) (g : SemLoc sig) (r : ℕ) (d : Bool) : sProp 𝕄 := match g with
  | .reg _ => if d then barPay c else iprop(emp)
  | .dma s => if s.val = 14 then sndPay P c r else if s.val < 22 then rsPay P c (s.val - 15) else agPay P c (s.val - 22)
def semAmount (g : SemLoc sig) : ℕ := match g with | .reg _ => 1 | .dma _ => N

def Rd : Rounds.Schedule (GSem nD τ sig) Bool 𝕄 where
  duties g r := if g.1.2 = .tc then semDuties g.2 r else ∅
  unitless _ := False
  amount g _ _ := semAmount g.2
  payload g r d := semPay P g.1.1 g.2 r d
  amount_pos g _ _ _ := by
    rcases g with ⟨_, _ | _⟩
    · exact Nat.one_pos
    · exact N_pos

instance payload_storable (g : GSem nD τ sig) (r : ℕ) (d : Bool) :
    BI.Storable (upEmb : UEmb _ 𝕄) ((Rd P).payload g r d) := by
  rcases g with ⟨⟨c, _⟩, _ | s⟩
  · show BI.Storable upEmb (if d then barPay c else iprop(emp) : sProp 𝕄)
    unfold barPay; split <;> infer_instance
  · show BI.Storable upEmb (if s.val = 14 then sndPay P c r else if s.val < 22 then rsPay P c (s.val - 15) else agPay P c (s.val - 22) : sProp 𝕄)
    unfold sndPay rsPay agPay trav
    (repeat' split) <;> infer_instance

section Sched

variable (c : Dev nD)

theorem duties_bar : (Rd P).duties (barC c) 0 = Finset.univ := rfl
theorem duties_snd (r : ℕ) (hr : r < 14) : (Rd P).duties (sndC c) r = {false} := if_pos hr
theorem duties_rs (s : ℕ) : (Rd P).duties (rsC c s) 0 = {false} :=
  (if_neg (show ¬ 15 + s % 7 = 14 by omega)).trans (if_pos ⟨show 14 < 15 + s % 7 by omega, rfl⟩)
theorem duties_ag (s : ℕ) : (Rd P).duties (agC c s) 0 = {false} :=
  (if_neg (show ¬ 22 + s % 7 = 14 by omega)).trans (if_pos ⟨show 14 < 22 + s % 7 by omega, rfl⟩)

theorem later_bar : ∀ r, 1 ≤ r → (Rd P).duties (barC c) r = ∅ := fun r hr => if_neg (by omega)
theorem later_snd : ∀ r, 14 ≤ r → (Rd P).duties (sndC c) r = ∅ := fun r hr => if_neg (by omega)
theorem later_rs (s : ℕ) : ∀ r, 1 ≤ r → (Rd P).duties (rsC c s) r = ∅ := fun r hr =>
  (if_neg (show ¬ 15 + s % 7 = 14 by omega)).trans (if_neg (show ¬ (14 < 15 + s % 7 ∧ r = 0) by omega))
theorem later_ag (s : ℕ) : ∀ r, 1 ≤ r → (Rd P).duties (agC c s) r = ∅ := fun r hr =>
  (if_neg (show ¬ 22 + s % 7 = 14 by omega)).trans (if_neg (show ¬ (14 < 22 + s % 7 ∧ r = 0) by omega))

theorem payload_snd (r : ℕ) (d : Bool) : (Rd P).payload (sndC c) r d = sndPay P c r := rfl
theorem payload_rs (s : ℕ) (hs : s < 7) (r : ℕ) (d : Bool) : (Rd P).payload (rsC c s) r d = rsPay P c s := by
  show (if 15 + s % 7 = 14 then _ else if 15 + s % 7 < 22 then rsPay P c (15 + s % 7 - 15) else _) = _
  rw [if_neg (by omega), if_pos (by omega), show 15 + s % 7 - 15 = s by omega]
theorem payload_ag (s : ℕ) (hs : s < 7) (r : ℕ) (d : Bool) : (Rd P).payload (agC c s) r d = agPay P c s := by
  show (if 22 + s % 7 = 14 then _ else if 22 + s % 7 < 22 then _ else agPay P c (22 + s % 7 - 22)) = _
  rw [if_neg (by omega), if_neg (by omega), show 22 + s % 7 - 22 = s by omega]

theorem expect_bar : (Rd P).expect (barC c) 0 = 2 := rfl
theorem expect_snd (r : ℕ) (hr : r < 14) : (Rd P).expect (sndC c) r = N := by
  unfold Schedule.expect Schedule.amountOf; rw [duties_snd P c r hr, Finset.sum_singleton]; rfl
theorem expect_rs (s : ℕ) : (Rd P).expect (rsC c s) 0 = N := by
  unfold Schedule.expect Schedule.amountOf; rw [duties_rs, Finset.sum_singleton]; rfl
theorem expect_ag (s : ℕ) : (Rd P).expect (agC c s) 0 = N := by
  unfold Schedule.expect Schedule.amountOf; rw [duties_ag, Finset.sum_singleton]; rfl

theorem rest_bar : bigSep ((Rd P).duties (barC c) 0 \ ∅) (fun d => (Rd P).payload (barC c) 0 d) = iprop(emp ∗ barPay (F := F) c) := by
  rw [Finset.sdiff_empty, duties_bar, bigSep_univ_eq_bigSepL [false, true] (by decide) (by decide)]; rfl
theorem rest_snd (r : ℕ) (hr : r < 14) : bigSep ((Rd P).duties (sndC c) r \ ∅) (fun d => (Rd P).payload (sndC c) r d) = sndPay P c r := by
  rw [Finset.sdiff_empty, duties_snd P c r hr, bigSep_singleton, payload_snd]
theorem rest_rs (s : ℕ) (hs : s < 7) : bigSep ((Rd P).duties (rsC c s) 0 \ ∅) (fun d => (Rd P).payload (rsC c s) 0 d) = rsPay P c s := by
  rw [Finset.sdiff_empty, duties_rs, bigSep_singleton, payload_rs P c s hs]
theorem rest_ag (s : ℕ) (hs : s < 7) : bigSep ((Rd P).duties (agC c s) 0 \ ∅) (fun d => (Rd P).payload (agC c s) 0 d) = agPay P c s := by
  rw [Finset.sdiff_empty, duties_ag, bigSep_singleton, payload_ag P c s hs]

end Sched

/-! ## What each core owes; the levels -/

/-- The reduce-scatter credits still owed before step `s`, and the all-gather credits. -/
def oRS (c : Dev nD) (s : ℕ) : CellTallies nD τ sig Unit := ∑ j ∈ Finset.Ico s 7, tallyAt (rsC (up c 1) j) () N
def oAG (c : Dev nD) (s : ℕ) : CellTallies nD τ sig Unit := ∑ j ∈ Finset.Ico s 7, tallyAt (agC (up c 1) j) () N
/-- At launch: both neighbours' barrier units besides. -/
def O₀ (c : Dev nD) : CellTallies nD τ sig Unit :=
  oRS c 0 + oAG c 0 + tallyAt (barC (up c 1)) () 1 + tallyAt (barC (dn c 1)) () 1

theorem oRS_bot (c : Dev nD) (s : ℕ) (hs : s < 7) : oRS c s = oRS c (s + 1) + tallyAt (rsC (up c 1) s) () N := by
  unfold oRS; rw [Finset.sum_eq_sum_Ico_succ_bot hs, add_comm]
theorem oAG_bot (c : Dev nD) (s : ℕ) (hs : s < 7) : oAG c s = oAG c (s + 1) + tallyAt (agC (up c 1) s) () N := by
  unfold oAG; rw [Finset.sum_eq_sum_Ico_succ_bot hs, add_comm]
theorem oRS_seven (c : Dev nD) : oRS c 7 = 0 := rfl
theorem oAG_seven (c : Dev nD) : oAG c 7 = 0 := rfl

def L (g : GSem nD τ sig) : Finset Unit := if g.1.2 = .tc then {()} else ∅
/-- The pipelines' cells lowest, then the barrier, the send cell, and the receive cells in the order they are used. -/
def lv (g : GSem nD τ sig) (_ : Unit) : ℕ := match g.2 with
  | .reg _ => 1
  | .dma s => if s.val < 14 then 0 else s.val - 12

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := rfl
theorem lv_snd (c : Dev nD) : lv (sndC c) () = 2 := rfl
theorem lv_rs (c : Dev nD) (s : ℕ) (hs : s < 7) : lv (rsC c s) () = 3 + s := by
  show (if 15 + s % 7 < 14 then 0 else 15 + s % 7 - 12) = _; rw [if_neg (by omega)]; omega
theorem lv_ag (c : Dev nD) (s : ℕ) (hs : s < 7) : lv (agC c s) () = 10 + s := by
  show (if 22 + s % 7 < 14 then 0 else 22 + s % 7 - 12) = _; rw [if_neg (by omega)]; omega

/-- Everything `O` owes lies on TensorCore cells above level `n`. -/
def Above (n : ℕ) (O : CellTallies nD τ sig Unit) : Prop := ∀ g u, 0 < O g u → g.1.2 = .tc ∧ n < lv g ()

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_tally {n : ℕ} (c : Dev nD) (sm : SemLoc sig) (k : ℕ) (h : n < lv ((c : Thread nD τ), sm) ()) : Above n (tallyAt ((c : Thread nD τ), sm) () k) := fun g u hg => by
  rw [tallyAt_apply] at hg
  by_cases h' : g = ((c : Thread nD τ), sm) ∧ u = ()
  · rw [h'.1]; exact ⟨rfl, h⟩
  · rw [if_neg h'] at hg; exact absurd hg (Nat.lt_irrefl 0)
theorem above_sum {n : ℕ} (S : Finset ℕ) (f : ℕ → CellTallies nD τ sig Unit) (h : ∀ j ∈ S, Above n (f j)) : Above n (∑ j ∈ S, f j) := by
  classical
  induction S using Finset.induction_on with
  | empty => rw [Finset.sum_empty]; exact above_zero n
  | insert a S ha ih =>
    rw [Finset.sum_insert ha]
    exact above_add (h a (Finset.mem_insert_self _ _)) (ih fun j hj => h j (Finset.mem_insert_of_mem hj))
theorem above_oRS (c : Dev nD) (n s : ℕ) (h : n < 3 + s) : Above n (oRS c s) :=
  above_sum _ _ fun j hj => above_tally _ _ _ (by have := Finset.mem_Ico.mp hj; rw [lv_rs _ _ this.2]; omega)
theorem above_oAG (c : Dev nD) (n s : ℕ) (h : n < 10 + s) : Above n (oAG c s) :=
  above_sum _ _ fun j hj => above_tally _ _ _ (by have := Finset.mem_Ico.mp hj; rw [lv_ag _ _ this.2]; omega)
theorem above_O₀ (c : Dev nD) : Above 0 (O₀ c) :=
  above_add (above_add (above_add (above_oRS c 0 0 (by omega)) (above_oAG c 0 0 (by omega))) (above_tally _ _ _ Nat.one_pos)) (above_tally _ _ _ Nat.one_pos)

theorem mayWait (c : Dev nD) (sm : SemLoc sig) (n : ℕ) (hn : lv ((c : Thread nD τ), sm) () ≤ n) {O : CellTallies nD τ sig Unit} (hO : Above n O) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hn)
    (fun g u hg => (hO g u hg).2)

/-! ## The context every step reads -/

/-- All cells' invariants at the names `K`, and the level of every cell. -/
def Ctx (K : GSem nD τ sig → ℕ) : sProp 𝕄 :=
  iprop(bigSep (barCells ∪ dmaCells) (fun g => cellInv ER (Rd P) (K g) g) ∗ levAts L lv)

instance ctx_persistent (K : GSem nD τ sig → ℕ) : BI.Persistent (Ctx P K) := by unfold Ctx; infer_instance

theorem ctx_inv (K : GSem nD τ sig → ℕ) {g : GSem nD τ sig} (hg : g ∈ barCells ∪ dmaCells) : Ctx P K ⊢ cellInv ER (Rd P) (K g) g := by
  unfold Ctx
  exact (sep_elim_left (P := bigSep (barCells ∪ dmaCells) fun g => cellInv ER (Rd P) (K g) g)).trans
    ((Entails.of_eq (bigSep_erase hg)).trans (sep_elim_left (P := cellInv ER (Rd P) (K g) g)))
theorem ctx_lev (K : GSem nD τ sig → ℕ) : Ctx P K ⊢ levAts L lv := by
  unfold Ctx; iintro ⟨-, H⟩; iexact H
theorem ctx_bar (K : GSem nD τ sig → ℕ) (c : Dev nD) : Ctx P K ⊢ cellInv ER (Rd P) (K (barC c)) (barC c) :=
  ctx_inv P K (Finset.mem_union_left _ (barC_mem c))
theorem ctx_snd (K : GSem nD τ sig → ℕ) (c : Dev nD) : Ctx P K ⊢ cellInv ER (Rd P) (K (sndC c)) (sndC c) :=
  ctx_inv P K (Finset.mem_union_right _ (sndC_mem c))
theorem ctx_rs (K : GSem nD τ sig → ℕ) (c : Dev nD) (s : ℕ) : Ctx P K ⊢ cellInv ER (Rd P) (K (rsC c s)) (rsC c s) :=
  ctx_inv P K (Finset.mem_union_right _ (rsC_mem c s))
theorem ctx_ag (K : GSem nD τ sig → ℕ) (c : Dev nD) (s : ℕ) : Ctx P K ⊢ cellInv ER (Rd P) (K (agC c s)) (agC c s) :=
  ctx_inv P K (Finset.mem_union_right _ (agC_mem c s))

/-! ## The states -/

/-- The device owes `O`, whatever waits it has recorded. -/
def owing (c : Dev nD) (O : CellTallies nD τ sig Unit) : sProp 𝕄 := iprop(∃ W, owes (c : Thread nD τ) O W)
/-- The duty tokens of the send cell from round `r` on. -/
def toks (c : Dev nD) (r : ℕ) : sProp 𝕄 := bigSep (Finset.Ico r 14) fun j => dutyTok ER (sndC c) j false
/-- At round `r` of the send cell, nothing in flight. -/
def sndAt (c : Dev nD) (r : ℕ) : sProp 𝕄 := iprop(toks (F := F) c r ∗ atPos ER (sndC c) r ∅ 0 ∗ reached ER (sndC c) r)
/-- The same with the round's transfer in flight. -/
def sndOut (c : Dev nD) (r : ℕ) : sProp 𝕄 := iprop(toks (F := F) c (r + 1) ∗ atPos ER (sndC c) r ∅ 0 ∗ cred (tallyAt (sndC c) () N))
/-- What a reduce-scatter step to come is run with: paying the neighbour's cell, and waiting on the own. -/
def rsIn (c : Dev nD) (j : ℕ) : sProp 𝕄 := iprop(cred (tallyAt (rsC c j) () N) ∗ atPos ER (rsC c j) 0 ∅ 0)
def rsFut (c : Dev nD) (j : ℕ) : sProp 𝕄 :=
  iprop((dutyTok ER (rsC (up c 1) j) 0 false ∗ reached ER (rsC (up c 1) j) 0 ∗ ∃ f, slP (F := F) (up c 1) j f) ∗ rsIn (F := F) c j)
/-- What a reduce-scatter step leaves: the receive cell closed, the slot. -/
def rsPast (c : Dev nD) (j : ℕ) : sProp 𝕄 := iprop(semVal (rsC c j) 0 ∗ ∃ f, slP (F := F) c j f)
def agIn (c : Dev nD) (j : ℕ) : sProp 𝕄 := iprop(cred (tallyAt (agC c j) () N) ∗ atPos ER (agC c j) 0 ∅ 0)
def agFut (c : Dev nD) (j : ℕ) : sProp 𝕄 :=
  iprop((dutyTok ER (agC (up c 1) j) 0 false ∗ reached ER (agC (up c 1) j) 0) ∗ agIn (F := F) c j)
/-- The device's own chunks not yet touched. -/
def raw (c : Dev nD) (s : ℕ) : sProp 𝕄 := bigSep (Finset.Ico s 8) fun j => chP c (dn c j) (P c)
/-- The device's finished chunks after `s` steps of the all-gather. -/
def fin (c : Dev nD) (s : ℕ) : sProp 𝕄 := bigSep (Finset.Ico 0 s) fun j => chP c (dn (up c 1) j) (acc P (dn (up c 1) j) 7)

/-- What stays put during reduce-scatter step `s`: the later steps' and the earlier steps' things. -/
def rsRest (c : Dev nD) (s : ℕ) : sProp 𝕄 := iprop(bigSep (Finset.Ico (s + 1) 7) (rsFut (F := F) c) ∗ bigSep (Finset.Ico 0 s) (rsPast (F := F) c))

/-- Before reduce-scatter step `s`. -/
def rsA (c : Dev nD) (s : ℕ) : sProp 𝕄 :=
  iprop(owing (F := F) c (oRS c s + oAG c 0) ∗ sndAt (F := F) c s ∗ bigSep (Finset.Ico s 7) (rsFut (F := F) c) ∗ bigSep (Finset.Ico 0 s) (rsPast (F := F) c)
    ∗ (chP c (dn c s) (acc P (dn c s) s) ∗ trav P (dn c s) 0 s) ∗ raw P c (s + 1))
/-- Its transfer sent. -/
def rsB (c : Dev nD) (s : ℕ) : sProp 𝕄 :=
  iprop(owing (F := F) c (oRS c (s + 1) + oAG c 0) ∗ sndOut (F := F) c s ∗ rsIn (F := F) c s ∗ rsRest (F := F) c s ∗ raw P c (s + 1))
/-- Its send waited for. -/
def rsW (c : Dev nD) (s : ℕ) : sProp 𝕄 :=
  iprop(owing (F := F) c (oRS c (s + 1) + oAG c 0) ∗ sndAt (F := F) c (s + 1) ∗ rsIn (F := F) c s ∗ rsRest (F := F) c s ∗ raw P c (s + 1))
/-- The chunk from the left landed. -/
def rsD (c : Dev nD) (s : ℕ) : sProp 𝕄 :=
  iprop(owing (F := F) c (oRS c (s + 1) + oAG c 0) ∗ sndAt (F := F) c (s + 1) ∗ rsRest (F := F) c s ∗ semVal (rsC c s) 0 ∗ (∃ f, slotAt P c s f)
    ∗ trav P (dn c (s + 1)) 0 (s + 1) ∗ chP c (dn c (s + 1)) (P c) ∗ raw P c (s + 2))

/-- Before all-gather step `s`. -/
def agA (c : Dev nD) (s : ℕ) : sProp 𝕄 :=
  iprop(owing (F := F) c (oAG c s) ∗ sndAt (F := F) c (7 + s) ∗ bigSep (Finset.Ico s 7) (agFut (F := F) c) ∗ bigSep (Finset.Ico 0 s) (fun j => semVal (agC c j) 0)
    ∗ (chP c (dn (up c 1) s) (acc P (dn (up c 1) s) 7) ∗ trav P (dn (up c 1) s) s 7) ∗ fin P c s)
/-- Its transfer sent. -/
def agB (c : Dev nD) (s : ℕ) : sProp 𝕄 :=
  iprop(owing (F := F) c (oAG c (s + 1)) ∗ sndOut (F := F) c (7 + s) ∗ agIn (F := F) c s ∗ bigSep (Finset.Ico (s + 1) 7) (agFut (F := F) c) ∗ bigSep (Finset.Ico 0 s) (fun j => semVal (agC c j) 0)
    ∗ fin P c s)
/-- Its send waited for. -/
def agW (c : Dev nD) (s : ℕ) : sProp 𝕄 :=
  iprop(owing (F := F) c (oAG c (s + 1)) ∗ sndAt (F := F) c (7 + (s + 1)) ∗ agIn (F := F) c s ∗ bigSep (Finset.Ico (s + 1) 7) (agFut (F := F) c) ∗ bigSep (Finset.Ico 0 s) (fun j => semVal (agC c j) 0)
    ∗ fin P c (s + 1))

end Cert.KernelIdeal.Talk

end
-- ==== Proof.RingOps.lean ====
/-
  The all-reduce ring's operations, each taking the device from one state of the protocol to the next, for every step of
  the reduce-scatter and of the all-gather at once.
-/
module

public import proofs.«01_k».proof.Proof.RingProto

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (P : Dev nD → Arr F) (K : GSem nD τ sig → ℕ) (c : Dev nD)

/-- `p` runs on device `c`'s TensorCore, ending in `Q`. -/
abbrev runs {α : Type} (p : Prog (TpuEff nD τ sig (Elt F) Λ₀ .tc) α) (Q : α → sProp 𝕄) : sProp 𝕄 :=
  wp frame (wpE (defs₀ (F := F)) 𝒱₀ (c : Thread nD τ) none) Set.univ p Q

variable {α : Type}

/-! ## Chunks, slots and cells as the program spells them -/

abbrev chAt (o : Fin 2 → ℕ) (h : ∀ a, o a + S256x1024.size a ≤ S2048x1024.size a) : Memref sig .tc .vmem S256x1024 .f32 :=
  aM.slice (Rect.unit (s := S2048x1024) o S256x1024.size h) (fun _ => rfl)
abbrev slAt (o : Fin 3 → ℕ) (h : ∀ a, o a + S1x256x1024.size a ≤ S7x256x1024.size a) : Memref sig .tc .vmem S256x1024 .f32 :=
  (wM.slice (Rect.unit (s := S7x256x1024) o S1x256x1024.size h) (fun _ => rfl)).squeeze S256x1024 squeezes_S1x256x1024_S256x1024

/-! ## Waits -/

/-- The wait for the send in flight of round `r`: the round's payload, and the cell at the next round. -/
theorem snd_wait (r : ℕ) (hr : r < 14) {O : CellTallies nD τ sig Unit} (hO : Above 2 O) {sS : DmaSem sig} (hS : sS = sndS)
    {sp sp' : CoreSpace} {sh sh' : Shape} {e e'} {src : Memref sig .tc sp sh e} {dst : Memref sig .tc sp' sh' e'} {h1 h2} (hN : dst.view.dmaCredit = N)
    {Q : α → sProp 𝕄} {k : PUnit → Prog (TpuEff nD τ sig (Elt F) Λ₀ .tc) α} :
    iprop(Ctx P K ∗ owing (F := F) c O ∗ sndOut (F := F) c r)
      ⊢ iprop((owing (F := F) c O ∗ sndAt (F := F) c (r + 1) ∗ sndPay P c r -∗ runs c (k ⟨⟩) Q)
        -∗ runs c (.op (.waitDma2 sS src dst h1 h2) k) Q) := by
  subst hS
  unfold sndOut owing sndAt
  iintro ⟨#HC, ⟨%W, HO⟩, Htk, Hat, Hcr⟩ Hk
  iapply (Rounds.wp_wait_rest_token 𝒱₀ ER (Rd P) (c : Thread nD τ) none (κ := K (sndC c))
      (wpE_waitDma2_eq (src := src) (dst := dst) 𝒱₀ (c : Thread nD τ) none Set.univ) (Set.mem_univ _) () (O := O) (W := W) (R := r) (m := 0) (T := ∅)
      ((Nat.zero_add _).trans (hN.trans (expect_snd P c r hr).symm))) $$ [Hcr HO Hat]
  · isplitr; · iapply (ctx_snd P K c); iexact HC
    isplitl [Hcr]; · rw [hN]; iexact Hcr
    isplitl [HO]; · iexact HO
    isplitr; · iapply (mayWait c (.dma sndS) 2 (le_of_eq (lv_snd c)) hO); iapply (ctx_lev P K); iexact HC
    iexact Hat
  iintro ⟨HO, Hat, Hr, Hpay⟩
  ihave Hp := (Entails.of_eq (rest_snd P c r hr)) $$ Hpay
  iapply Hk
  isplitl [HO]; · iexists _; iexact HO
  isplitr [Hp]
  · isplitl [Htk]; · iexact Htk
    isplitl [Hat]; · iexact Hat
    iexact Hr
  iexact Hp

/-! ## The reduce-scatter -/

theorem rs_send (s : ℕ) (hs : s < 7) {n : Dev nD} (hn : n = up c 1) {o : Fin 2 → ℕ} (ho : o = chOff (dn c s)) {o' : Fin 3 → ℕ} (ho' : o' = slOff s)
    {sS sR : DmaSem sig} (hS : sS = sndS) (hR : sR = rsS s) {inb inb'} {hsc h1 h2 h3} {Q : α → sProp 𝕄} {k : PUnit → Prog (TpuEff nD τ sig (Elt F) Λ₀ .tc) α} :
    iprop(Ctx P K ∗ rsA P c s)
      ⊢ iprop((rsB P c s -∗ runs c (k ⟨⟩) Q)
        -∗ runs c (.op (.enqueueDma (chAt o inb) (.remote (Dev.tc n) (slAt o' inb') (.dma sS) hsc) (.dma sR) h1 h2 h3) k) Q) := by
  subst hn ho ho' hS hR
  unfold rsA rsB rsRest
  rw [bigSep_Ico_succ_bot hs (rsFut (F := F) c)]
  unfold owing sndAt sndOut toks
  rw [bigSep_Ico_succ_bot (show s < 14 by omega)]
  unfold rsFut
  iintro ⟨#HC, ⟨%W, HO⟩, ⟨⟨Htk, Htks⟩, Hat, #Hr⟩, ⟨⟨⟨HtR, #HrR, ⟨%fd, Hsl⟩⟩, Hin⟩, Hfut⟩, Hpast, ⟨Hch, Htrav⟩, Hraw⟩ Hk
  iapply (Rounds.wp_send_landing_pointsTo_with 𝒱₀ ER (Rd P) (c : Thread nD τ) none (c' := (up c 1 : Thread nD τ))
      (src := chM (dn c s)) (dst := slM s) (sS := .dma sndS) (sem := .dma (rsS s)) (q := fullShare)
      (fs := acc P (dn c s) s) (fd := fd) (F := trav P (dn c s) 0 s) (κ₁ := K (sndC c)) (κ₂ := K (rsC (up c 1) s))
      (r₁ := s) (r₂ := 0) (d₁ := false) (d₂ := false)
      (by rw [duties_snd P c s (by omega)]; exact Finset.mem_singleton_self _) (by rw [duties_rs]; exact Finset.mem_singleton_self _)
      () () N rfl rfl rfl (O₀ := oRS c s + oAG c 0) (oRS c (s + 1) + oAG c 0) (by rw [oRS_bot c s hs, add_right_comm]) (W := W)
      (by rw [payload_snd]; unfold sndPay; rw [if_pos hs])
      (by
        rw [payload_rs P _ s hs]; unfold rsPay slotAt
        rw [dn_up1 c s (by omega), trav_top P _ (Nat.zero_le s), up_dn c s (by omega)]
        iintro ⟨⟨H1, H2⟩, H3⟩
        isplitl [H1]; · iexists fd; iexact H1
        isplitl [H3]; · iexact H3
        iexact H2)) $$ [HO Htk HtR Hsl Hch Htrav]
  · isplitr; · iapply (ctx_snd P K c); iexact HC
    isplitr; · iapply (ctx_rs P K (up c 1) s); iexact HC
    isplitl [Hch]; · iexact Hch
    isplitl [Hsl Htrav]; · isplitl [Hsl]; · iexact Hsl
                           iexact Htrav
    isplitl [HO]; · iexact HO
    isplitl [Htk]; · iexact Htk
    isplitr; · iexact Hr
    isplitl [HtR]; · iexact HtR
    iexact HrR
  iintro ⟨Hcr, HO⟩
  iapply Hk
  isplitl [HO]; · iexists W; iexact HO
  isplitl [Htks Hat Hcr]
  · isplitl [Htks]; · iexact Htks
    isplitl [Hat]; · iexact Hat
    iexact Hcr
  isplitl [Hin]; · iexact Hin
  isplitl [Hfut Hpast]
  · isplitl [Hfut]; · iexact Hfut
    iexact Hpast
  iexact Hraw

theorem rs_swait (s : ℕ) (hs : s < 7) {sS : DmaSem sig} (hS : sS = sndS)
    {sp sp' : CoreSpace} {sh sh' : Shape} {e e'} {src : Memref sig .tc sp sh e} {dst : Memref sig .tc sp' sh' e'} {h1 h2} (hN : dst.view.dmaCredit = N)
    {Q : α → sProp 𝕄} {k : PUnit → Prog (TpuEff nD τ sig (Elt F) Λ₀ .tc) α} :
    iprop(Ctx P K ∗ rsB P c s) ⊢ iprop((rsW P c s -∗ runs c (k ⟨⟩) Q) -∗ runs c (.op (.waitDma2 sS src dst h1 h2) k) Q) := by
  unfold rsB rsW
  iintro ⟨#HC, HO, Hsnd, Hrest⟩ Hk
  iapply (snd_wait P K c s (by omega) (above_add (above_oRS c 2 (s + 1) (by omega)) (above_oAG c 2 0 (by omega))) hS (src := src) (h1 := h1) (h2 := h2) hN) $$ [HO Hsnd]
  · isplitr; · iexact HC
    isplitl [HO]; · iexact HO
    iexact Hsnd
  iintro ⟨HO, Hsnd, -⟩
  iapply Hk
  isplitl [HO]; · iexact HO
  isplitl [Hsnd]; · iexact Hsnd
  iexact Hrest

theorem rs_rwait (s : ℕ) (hs : s < 7) {sR : DmaSem sig} (hR : sR = rsS s)
    {sp sp' : CoreSpace} {sh sh' : Shape} {e e'} {src : Memref sig .tc sp sh e} {dst : Memref sig .tc sp' sh' e'} {h1 h2} (hN : dst.view.dmaCredit = N)
    {Q : α → sProp 𝕄} {k : PUnit → Prog (TpuEff nD τ sig (Elt F) Λ₀ .tc) α} :
    iprop(Ctx P K ∗ rsW P c s) ⊢ iprop((rsD P c s -∗ runs c (k ⟨⟩) Q) -∗ runs c (.op (.waitDma2 sR src dst h1 h2) k) Q) := by
  subst hR
  unfold rsW rsD rsIn owing raw
  rw [bigSep_Ico_succ_bot (show s + 1 < 8 by omega)]
  iintro ⟨#HC, ⟨%W, HO⟩, Hsnd, ⟨Hcr, Hat⟩, Hrest, Hch, Hraw⟩ Hk
  iapply (Rounds.wp_wait_rest_token 𝒱₀ ER (Rd P) (c : Thread nD τ) none (κ := K (rsC c s))
      (wpE_waitDma2_eq (src := src) (dst := dst) 𝒱₀ (c : Thread nD τ) none Set.univ) (Set.mem_univ _) () (O := oRS c (s + 1) + oAG c 0) (W := W) (R := 0) (m := 0) (T := ∅)
      ((Nat.zero_add _).trans (hN.trans (expect_rs P c s).symm))) $$ [Hcr HO Hat]
  · isplitr; · iapply (ctx_rs P K c s); iexact HC
    isplitl [Hcr]; · rw [hN]; iexact Hcr
    isplitl [HO]; · iexact HO
    isplitr
    · iapply (mayWait c (.dma (rsS s)) (3 + s) (le_of_eq (lv_rs c s hs)) (above_add (above_oRS c _ (s + 1) (by omega)) (above_oAG c _ 0 (by omega))))
      iapply (ctx_lev P K); iexact HC
    iexact Hat
  iintro ⟨HO, Hat, -, Hpay⟩
  ihave Hp := (Entails.of_eq ((rest_rs P c s hs).trans (by unfold rsPay; rfl))) $$ Hpay
  icases Hp with ⟨Hsl, Htrav⟩
  iapply (fupd_wp (E := Set.univ))
  imod (Rounds.cell_close ER (Rd P) (κ := K (rsC c s)) (g := rsC c s) (Set.mem_univ _) id (later_rs P c s)) $$ [Hat] with Hsem
  · isplitr; · iapply (ctx_rs P K c s); iexact HC
    iexact Hat
  imodintro
  iapply Hk
  isplitl [HO]; · iexists _; iexact HO
  isplitl [Hsnd]; · iexact Hsnd
  isplitl [Hrest]; · iexact Hrest
  isplitl [Hsem]; · iexact Hsem
  isplitl [Hsl]; · iexact Hsl
  isplitl [Htrav]; · iexact Htrav
  isplitl [Hch]; · iexact Hch
  iexact Hraw

/-- The load of the device's own chunk. -/
theorem rs_own (s : ℕ) (hs : s < 7) {o : Fin 2 → ℕ} (ho : o = chOff (dn c (s + 1))) {inb : ∀ a, o a + S256x1024.size a ≤ S2048x1024.size a} {hl}
    {Q : α → sProp 𝕄} {k : ((Rect.unit (s := S2048x1024) o S256x1024.size inb).shape.Idx → Elt F .f32) → Prog (TpuEff nD τ sig (Elt F) Λ₀ .tc) α} :
    rsD P c s ⊢ iprop((rsD P c s -∗ runs c (k ((aM.access (Rect.unit (s := S2048x1024) o S256x1024.size inb)).read (Elt F) (P c))) Q)
        -∗ runs c (.op (.load aM (Rect.unit (s := S2048x1024) o S256x1024.size inb).toLoadRect hl) k) Q) := by
  subst ho
  unfold rsD
  iintro ⟨HO, Hsnd, Hrest, Hsem, Hsl, Htrav, Hch, Hraw⟩ Hk
  iapply (wp_load_rect 𝒱₀ (c : Thread nD τ) none Set.univ (m := aM) (r := chR (dn c (s + 1))) (S := (chM (dn c (s + 1))).view.set) subset_rfl) $$ Hch
  iintro Hch
  iapply Hk
  isplitl [HO]; · iexact HO
  isplitl [Hsnd]; · iexact Hsnd
  isplitl [Hrest]; · iexact Hrest
  isplitl [Hsem]; · iexact Hsem
  isplitl [Hsl]; · iexact Hsl
  isplitl [Htrav]; · iexact Htrav
  isplitl [Hch]; · iexact Hch
  iexact Hraw

/-- The load of the landed chunk. -/
theorem rs_comm (s : ℕ) (hs : s < 7) {o : Fin 3 → ℕ} (ho : o = slOff s) {inb : ∀ a, o a + S1x256x1024.size a ≤ S7x256x1024.size a} {hl}
    {Q : α → sProp 𝕄} {k : ((Rect.unit (s := S7x256x1024) o S1x256x1024.size inb).shape.Idx → Elt F .f32) → Prog (TpuEff nD τ sig (Elt F) Λ₀ .tc) α} :
    rsD P c s ⊢ iprop((rsD P c s -∗ runs c (k (landed P (dn c (s + 1)) s)) Q)
        -∗ runs c (.op (.load wM (Rect.unit (s := S7x256x1024) o S1x256x1024.size inb).toLoadRect hl) k) Q) := by
  subst ho
  unfold rsD
  iintro ⟨HO, Hsnd, Hrest, Hsem, ⟨%f, Hsl⟩, Htrav, Hch, Hraw⟩ Hk
  have hset : (wM.access (slR s)).set ⊆ (slM s).view.set := by
    rw [View.set_reshape]
  iapply (wp_load_rect 𝒱₀ (c : Thread nD τ) none Set.univ (m := wM) (r := slR s) (S := (slM s).view.set) hset) $$ Hsl
  iintro Hsl
  rw [slot_read]
  iapply Hk
  isplitl [HO]; · iexact HO
  isplitl [Hsnd]; · iexact Hsnd
  isplitl [Hrest]; · iexact Hrest
  isplitl [Hsem]; · iexact Hsem
  isplitl [Hsl]; · iexists f; iexact Hsl
  isplitl [Htrav]; · iexact Htrav
  isplitl [Hch]; · iexact Hch
  iexact Hraw

theorem stored (s : ℕ) (hs : s < 7) (h1 : S256x1024.ShapeCasts S256x1024) (h2 : S1x256x1024.ShapeCasts S256x1024) :
    chP c (dn c (s + 1)) ((aM.access (chR (dn c (s + 1)))).write (Elt F) (P c)
        (addf (shapeCast S256x1024 ((aM.access (chR (dn c (s + 1)))).read (Elt F) (P c) : Vec F S256x1024 .f32) h1) (shapeCast S256x1024 (landed P (dn c (s + 1)) s) h2)) Finset.univ)
      = chP c (dn c (s + 1)) (acc P (dn c (s + 1)) (s + 1)) :=
  pointsTo_congr fun i hi => add_landed P c s hs i hi h1 h2

/-- The store of the sum. -/
theorem rs_store (s : ℕ) (hs : s < 7) {o : Fin 2 → ℕ} (ho : o = chOff (dn c (s + 1))) {inb : ∀ a, o a + S256x1024.size a ≤ S2048x1024.size a} {hx hm}
    {h1 : S256x1024.ShapeCasts S256x1024} {h2 : S1x256x1024.ShapeCasts S256x1024} {w : FVec F S256x1024 .f32}
    (hw : w = addf (shapeCast S256x1024 ((aM.access (Rect.unit (s := S2048x1024) o S256x1024.size inb)).read (Elt F) (P c) : Vec F S256x1024 .f32) h1)
      (shapeCast S256x1024 (landed P (dn c (s + 1)) s) h2))
    {Q : α → sProp 𝕄} {k : PUnit → Prog (TpuEff nD τ sig (Elt F) Λ₀ .tc) α} :
    rsD P c s ⊢ iprop((rsA P c (s + 1) -∗ runs c (k ⟨⟩) Q)
        -∗ runs c (.op (.store aM (Rect.unit (s := S2048x1024) o S256x1024.size inb) w Finset.univ hx hm) k) Q) := by
  subst ho hw
  unfold rsD rsA rsRest
  rw [bigSep_Ico_succ_top (Nat.zero_le s) (rsPast (F := F) c)]
  unfold rsPast
  iintro ⟨HO, Hsnd, ⟨Hfut, Hpast⟩, Hsem, ⟨%f, Hsl⟩, Htrav, Hch, Hraw⟩ Hk
  have hset : (aM.access (chR (dn c (s + 1)))).setOn Finset.univ ⊆ (chM (dn c (s + 1))).view.set := by
    rw [View.setOn_univ]
  iapply (wp_store 𝒱₀ (c : Thread nD τ) none Set.univ (m := aM) (r := chR (dn c (s + 1))) (S := (chM (dn c (s + 1))).view.set) hset) $$ Hch
  iintro Hch
  ihave Hch := (Entails.of_eq (stored P c s hs h1 h2)) $$ Hch
  iapply Hk
  isplitl [HO]; · iexact HO
  isplitl [Hsnd]; · iexact Hsnd
  isplitl [Hfut]; · iexact Hfut
  isplitl [Hpast Hsem Hsl]
  · isplitr [Hpast]
    · isplitl [Hsem]; · iexact Hsem
      iexists _; iexact Hsl
    iexact Hpast
  isplitl [Htrav Hch]
  · isplitl [Hch]; · iexact Hch
    iexact Htrav
  iexact Hraw

/-! ## The all-gather -/

theorem ag_send (s : ℕ) (hs : s < 7) {n : Dev nD} (hn : n = up c 1) {o : Fin 2 → ℕ} (ho : o = chOff (dn (up c 1) s))
    {sS sR : DmaSem sig} (hS : sS = sndS) (hR : sR = agS s) {inb inb'} {hsc h1 h2 h3} {Q : α → sProp 𝕄} {k : PUnit → Prog (TpuEff nD τ sig (Elt F) Λ₀ .tc) α} :
    iprop(Ctx P K ∗ agA P c s)
      ⊢ iprop((agB P c s -∗ runs c (k ⟨⟩) Q)
        -∗ runs c (.op (.enqueueDma (chAt o inb) (.remote (Dev.tc n) (chAt o inb') (.dma sS) hsc) (.dma sR) h1 h2 h3) k) Q) := by
  subst hn ho hS hR
  unfold agA agB
  rw [bigSep_Ico_succ_bot hs (agFut (F := F) c)]
  unfold owing sndAt sndOut toks
  rw [bigSep_Ico_succ_bot (show 7 + s < 14 by omega), trav_bot P _ hs]
  unfold agFut
  iintro ⟨#HC, ⟨%W, HO⟩, ⟨⟨Htk, Htks⟩, Hat, #Hr⟩, ⟨⟨⟨HtR, #HrR⟩, Hin⟩, Hfut⟩, Hpast, ⟨Hch, Hnext, Htrav⟩, Hfin⟩ Hk
  ihave Hnext := (Entails.of_eq (show chP (up (dn (up c 1) s) s) (dn (up c 1) s) (acc P (dn (up c 1) s) s) = chP (up c 1) (dn (up c 1) s) (acc P (dn (up c 1) s) s) by
    rw [up_dn (up c 1) s (by omega)])) $$ Hnext
  iapply (Rounds.wp_send_pointsTo_with 𝒱₀ ER (Rd P) (c : Thread nD τ) none (c' := (up c 1 : Thread nD τ))
      (src := chM (dn (up c 1) s)) (dst := chM (dn (up c 1) s)) (sS := .dma sndS) (sem := .dma (agS s)) (q := fullShare)
      (fs := acc P (dn (up c 1) s) 7) (fd := acc P (dn (up c 1) s) s) (F := trav P (dn (up c 1) s) (s + 1) 7) (κ₁ := K (sndC c)) (κ₂ := K (agC (up c 1) s))
      (r₁ := 7 + s) (r₂ := 0) (d₁ := false) (d₂ := false)
      (by rw [duties_snd P c (7 + s) (by omega)]; exact Finset.mem_singleton_self _) (by rw [duties_ag]; exact Finset.mem_singleton_self _)
      () () N rfl rfl rfl (oAG c (s + 1)) (oAG_bot c s hs) (W := W)
      (by rw [payload_snd]; unfold sndPay; rw [if_neg (by omega), show 7 + s - 7 = s by omega])
      (by
        rw [payload_ag P _ s hs]; unfold agPay
        iintro ⟨H1, H2⟩
        isplitl [H1]
        · iapply (Entails.of_eq (pointsTo_congr (f := (chM (dn (up c 1) s)).view.write (Elt F) (acc P (dn (up c 1) s) s) ((chM (dn (up c 1) s)).view.read (Elt F) (acc P (dn (up c 1) s) 7)) Finset.univ)
            (g := acc P (dn (up c 1) s) 7) fun i hi => by
              obtain ⟨x, -, rfl⟩ := Finset.mem_map.mp hi
              refine View.eq_of_read_eq (v := (chM (dn (up c 1) s)).view) ?_
              rw [View.read_write_of_mem _ _ (Finset.mem_univ x)]))
          iexact H1
        iexact H2)) $$ [HO Htk HtR Hch Hnext Htrav]
  · isplitr; · iapply (ctx_snd P K c); iexact HC
    isplitr; · iapply (ctx_ag P K (up c 1) s); iexact HC
    isplitl [Hch]; · iexact Hch
    isplitl [Hnext Htrav]; · isplitl [Hnext]; · iexact Hnext
                             iexact Htrav
    isplitl [HO]; · iexact HO
    isplitl [Htk]; · iexact Htk
    isplitr; · iexact Hr
    isplitl [HtR]; · iexact HtR
    iexact HrR
  iintro ⟨Hcr, HO⟩
  iapply Hk
  isplitl [HO]; · iexists W; iexact HO
  isplitl [Htks Hat Hcr]
  · isplitl [Htks]; · iexact Htks
    isplitl [Hat]; · iexact Hat
    iexact Hcr
  isplitl [Hin]; · iexact Hin
  isplitl [Hfut]; · iexact Hfut
  isplitl [Hpast]; · iexact Hpast
  iexact Hfin

theorem ag_swait (s : ℕ) (hs : s < 7) {sS : DmaSem sig} (hS : sS = sndS)
    {sp sp' : CoreSpace} {sh sh' : Shape} {e e'} {src : Memref sig .tc sp sh e} {dst : Memref sig .tc sp' sh' e'} {h1 h2} (hN : dst.view.dmaCredit = N)
    {Q : α → sProp 𝕄} {k : PUnit → Prog (TpuEff nD τ sig (Elt F) Λ₀ .tc) α} :
    iprop(Ctx P K ∗ agB P c s) ⊢ iprop((agW P c s -∗ runs c (k ⟨⟩) Q) -∗ runs c (.op (.waitDma2 sS src dst h1 h2) k) Q) := by
  unfold agB agW fin
  rw [bigSep_Ico_succ_top (Nat.zero_le s)]
  iintro ⟨#HC, HO, Hsnd, Hin, Hfut, Hpast, Hfin⟩ Hk
  iapply (snd_wait P K c (7 + s) (by omega) (above_oAG c 2 (s + 1) (by omega)) hS (src := src) (h1 := h1) (h2 := h2) hN) $$ [HO Hsnd]
  · isplitr; · iexact HC
    isplitl [HO]; · iexact HO
    iexact Hsnd
  iintro ⟨HO, Hsnd, Hp⟩
  ihave Hp := (Entails.of_eq (show sndPay P c (7 + s) = chP c (dn (up c 1) s) (acc P (dn (up c 1) s) 7) by
    unfold sndPay; rw [if_neg (by omega), show 7 + s - 7 = s by omega])) $$ Hp
  iapply Hk
  isplitl [HO]; · iexact HO
  isplitl [Hsnd]; · iexact Hsnd
  isplitl [Hin]; · iexact Hin
  isplitl [Hfut]; · iexact Hfut
  isplitl [Hpast]; · iexact Hpast
  isplitl [Hp]; · iexact Hp
  iexact Hfin

theorem ag_rwait (s : ℕ) (hs : s < 7) {sR : DmaSem sig} (hR : sR = agS s)
    {sp sp' : CoreSpace} {sh sh' : Shape} {e e'} {src : Memref sig .tc sp sh e} {dst : Memref sig .tc sp' sh' e'} {h1 h2} (hN : dst.view.dmaCredit = N)
    {Q : α → sProp 𝕄} {k : PUnit → Prog (TpuEff nD τ sig (Elt F) Λ₀ .tc) α} :
    iprop(Ctx P K ∗ agW P c s) ⊢ iprop((agA P c (s + 1) -∗ runs c (k ⟨⟩) Q) -∗ runs c (.op (.waitDma2 sR src dst h1 h2) k) Q) := by
  subst hR
  unfold agW agA agIn owing
  rw [bigSep_Ico_succ_top (Nat.zero_le s) (fun j => semVal (agC c j) 0)]
  iintro ⟨#HC, ⟨%W, HO⟩, Hsnd, ⟨Hcr, Hat⟩, Hfut, Hpast, Hfin⟩ Hk
  iapply (Rounds.wp_wait_rest_token 𝒱₀ ER (Rd P) (c : Thread nD τ) none (κ := K (agC c s))
      (wpE_waitDma2_eq (src := src) (dst := dst) 𝒱₀ (c : Thread nD τ) none Set.univ) (Set.mem_univ _) () (O := oAG c (s + 1)) (W := W) (R := 0) (m := 0) (T := ∅)
      ((Nat.zero_add _).trans (hN.trans (expect_ag P c s).symm))) $$ [Hcr HO Hat]
  · isplitr; · iapply (ctx_ag P K c s); iexact HC
    isplitl [Hcr]; · rw [hN]; iexact Hcr
    isplitl [HO]; · iexact HO
    isplitr
    · iapply (mayWait c (.dma (agS s)) (10 + s) (le_of_eq (lv_ag c s hs)) (above_oAG c _ (s + 1) (by omega)))
      iapply (ctx_lev P K); iexact HC
    iexact Hat
  iintro ⟨HO, Hat, -, Hpay⟩
  ihave Hp := (Entails.of_eq ((rest_ag P c s hs).trans (show agPay P c s
      = iprop(chP c (dn (up c 1) (s + 1)) (acc P (dn (up c 1) (s + 1)) 7) ∗ trav P (dn (up c 1) (s + 1)) (s + 1) 7) by
    unfold agPay; rw [dn_up1 c s (by omega)]))) $$ Hpay
  iapply (fupd_wp (E := Set.univ))
  imod (Rounds.cell_close ER (Rd P) (κ := K (agC c s)) (g := agC c s) (Set.mem_univ _) id (later_ag P c s)) $$ [Hat] with Hsem
  · isplitr; · iapply (ctx_ag P K c s); iexact HC
    iexact Hat
  imodintro
  iapply Hk
  isplitl [HO]; · iexists _; iexact HO
  isplitl [Hsnd]; · iexact Hsnd
  isplitl [Hfut]; · iexact Hfut
  isplitl [Hpast Hsem]
  · isplitl [Hsem]; · iexact Hsem
    iexact Hpast
  isplitl [Hp]; · iexact Hp
  iexact Hfin

/-! ## Whole steps -/

/-- One step of the reduce-scatter: the transfer, both waits, the three loads and the store. -/
theorem rs_step (s : ℕ) (hs : s < 7) {n : Dev nD} (hn : n = up c 1) {o₁ o₂ : Fin 2 → ℕ} (h₁ : o₁ = chOff (dn c s)) (h₂ : o₂ = chOff (dn c (s + 1)))
    {o' : Fin 3 → ℕ} (ho' : o' = slOff s) {sS sR : DmaSem sig} (hS : sS = sndS) (hR : sR = rsS s) {inb₁ inb₂ inb'} {hsc e1 e2 e3 e4 e5 e6 e7 l1 l2 l3 hx hm}
    {w : Vec F S256x1024 .f32 → Vec F S1x256x1024 .f32 → FVec F S256x1024 .f32} {g1 : S256x1024.ShapeCasts S256x1024} {g2 : S1x256x1024.ShapeCasts S256x1024}
    (hw : ∀ v v', w v v' = addf (F := F) (φ := .f32) (shapeCast S256x1024 v g1) (shapeCast S256x1024 v' g2))
    {Q : α → sProp 𝕄} {k : PUnit → Prog (TpuEff nD τ sig (Elt F) Λ₀ .tc) α} :
    iprop(Ctx P K ∗ rsA P c s)
      ⊢ iprop((rsA P c (s + 1) -∗ runs c (k ⟨⟩) Q)
        -∗ runs c (.op (.enqueueDma (chAt o₁ inb₁) (.remote (Dev.tc n) (slAt o' inb') (.dma sS) hsc) (.dma sR) e1 e2 e3) fun _ =>
          .op (.waitDma2 sS (slAt o' inb') (chAt o₁ inb₁) e4 e5) fun _ =>
          .op (.waitDma2 sR (chAt o₁ inb₁) (slAt o' inb') e6 e7) fun _ =>
          .op (.load aM (Rect.unit (s := S2048x1024) o₂ S256x1024.size inb₂).toLoadRect l1) fun v =>
          .op (.load wM (Rect.unit (s := S7x256x1024) o' S1x256x1024.size inb').toLoadRect l2) fun v' =>
          .op (.load aM (Rect.unit (s := S2048x1024) o₂ S256x1024.size inb₂).toLoadRect l3) fun _ =>
          .op (.store aM (Rect.unit (s := S2048x1024) o₂ S256x1024.size inb₂) (w v v') Finset.univ hx hm) k) Q) := by
  iintro ⟨#HC, H⟩ Hk
  iapply (rs_send P K c s hs hn h₁ ho' hS hR) $$ [H]
  · isplitr; · iexact HC
    iexact H
  iintro H
  iapply (rs_swait P K c s hs hS (src := slAt o' inb') (dst := chAt o₁ inb₁) rfl) $$ [H]
  · isplitr; · iexact HC
    iexact H
  iintro H
  iapply (rs_rwait P K c s hs hR (src := chAt o₁ inb₁) (dst := slAt o' inb') rfl) $$ [H]
  · isplitr; · iexact HC
    iexact H
  iintro H
  iapply (rs_own P c s hs h₂) $$ H
  iintro H
  iapply (rs_comm P c s hs ho') $$ H
  iintro H
  iapply (rs_own P c s hs h₂) $$ H
  iintro H
  iapply (rs_store P c s hs h₂ (hw _ _)) $$ H
  iexact Hk

/-- One step of the all-gather: the transfer and both waits. -/
theorem ag_step (s : ℕ) (hs : s < 7) {n : Dev nD} (hn : n = up c 1) {o : Fin 2 → ℕ} (ho : o = chOff (dn (up c 1) s))
    {sS sR : DmaSem sig} (hS : sS = sndS) (hR : sR = agS s) {inb} {hsc e1 e2 e3 e4 e5 e6 e7}
    {Q : α → sProp 𝕄} {k : PUnit → Prog (TpuEff nD τ sig (Elt F) Λ₀ .tc) α} :
    iprop(Ctx P K ∗ agA P c s)
      ⊢ iprop((agA P c (s + 1) -∗ runs c (k ⟨⟩) Q)
        -∗ runs c (.op (.enqueueDma (chAt o inb) (.remote (Dev.tc n) (chAt o inb) (.dma sS) hsc) (.dma sR) e1 e2 e3) fun _ =>
          .op (.waitDma2 sS (chAt o inb) (chAt o inb) e4 e5) fun _ =>
          .op (.waitDma2 sR (chAt o inb) (chAt o inb) e6 e7) k) Q) := by
  iintro ⟨#HC, H⟩ Hk
  iapply (ag_send P K c s hs hn ho hS hR) $$ [H]
  · isplitr; · iexact HC
    iexact H
  iintro H
  iapply (ag_swait P K c s hs hS (src := chAt o inb) (dst := chAt o inb) rfl) $$ [H]
  · isplitr; · iexact HC
    iexact H
  iintro H
  iapply (ag_rwait P K c s hs hR (src := chAt o inb) (dst := chAt o inb) rfl) $$ [H]
  · isplitr; · iexact HC
    iexact H
  iexact Hk

end Cert.KernelIdeal.Talk

end
-- ==== Proof.AttnBody.lean ====
/-
  The attention call's body at one grid point: from the staged blocks of the operands it leaves, in the staged block of
  the result, the head's contribution alone at the first head, and the contribution added to what the block held at a
  later one.
-/
module

public import proofs.«01_k».proof.Proof.RingOps
public import proofs.«01_k».proof.Proof.Gen.KernelIdeal.Points
public import proofs.«01_k».proof.Proof.Gen.KernelIdeal.Launch
public import Idealize.ShloMosaic.Lib.VecWindow

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

/-! ## Whole loads and stores of a staged block -/

section Blocks

variable {sh : Shape} {e : EltTy} (c : Dev nD)

/-- A whole load of an owned block continues at the block. -/
theorem load_block {α : Type} {Q : α → sProp 𝕄} {M : Memref sig .tc .vmem sh e} {X : sh.Idx → Elt F e} {off : Fin sh.rank → ℕ} {inb} {hl}
    {k : ((Rect.unit (s := sh) off sh.size inb).toLoadRect.shape.Idx → Elt F e) → Prog (TpuEff nD τ sig (Elt F) Λ₀ .tc) α} :
    (owns (c : Thread nD τ) M fullShare X : sProp 𝕄)
      ⊢ iprop((owns (c : Thread nD τ) M fullShare X -∗ runs c (k X) Q)
        -∗ runs c (.op (.load M (Rect.unit (s := sh) off sh.size inb).toLoadRect hl) k) Q) := by
  unfold owns
  iintro ⟨%f, %hf, H⟩ Hk
  iapply (wp_load 𝒱₀ (c : Thread nD τ) none Set.univ (m := M) (r := (Rect.unit (s := sh) off sh.size inb).toLoadRect) (S := M.view.set)
    (M.view.setOn_subset_set _)) $$ H
  iintro H
  have h : M.view.readAt (Elt F) (Rect.unit (s := sh) off sh.size inb).toLoadRect f = X := (M.view.readAt_full f inb).trans hf
  rw [h]
  iapply Hk
  iexists f
  isplitr; · ipureintro; exact hf
  iexact H

/-- A whole store over an owned block leaves the payload. -/
theorem store_block {α : Type} {Q : α → sProp 𝕄} {M : Memref sig .tc .vmem sh e} {X : sh.Idx → Elt F e} {off : Fin sh.rank → ℕ} {inb} {w : sh.Idx → Elt F e} {h₁ h₂}
    {k : PUnit → Prog (TpuEff nD τ sig (Elt F) Λ₀ .tc) α} :
    (owns (c : Thread nD τ) M fullShare X : sProp 𝕄)
      ⊢ iprop((owns (c : Thread nD τ) M fullShare w -∗ runs c (k ⟨⟩) Q)
        -∗ runs c (.op (.store M (Rect.unit (s := sh) off sh.size inb) w Finset.univ h₁ h₂) k) Q) := by
  unfold owns
  iintro ⟨%f, -, H⟩ Hk
  ihave H := (Entails.of_eq (show (M.view.loc (c : Thread nD τ) ↦[M.view.set]{fullShare} f : sProp 𝕄)
    = (M.view.loc (c : Thread nD τ) ↦[M.view.set]{fullShare} M.view.writes (Elt F) f []) from rfl)) $$ H
  iapply (wp_store_writes 𝒱₀ (c : Thread nD τ) none Set.univ (m := M) (r := Rect.unit (s := sh) off sh.size inb) (w := w) (f := f) (L := []) (S := M.view.set)
    (M.view.set_slice_subset _)) $$ H
  iintro H
  iapply Hk
  iexists M.view.writes (Elt F) f [⟨Rect.unit (s := sh) off sh.size inb, w⟩]
  isplitr; · ipureintro; exact M.view.read_writes_full f inb w []
  iexact H

end Blocks

/-! ## The body at a point -/

/-- One head's contribution to the block of rows at grid point `i`. -/
def contrib (i : grid0.Coords) (x : Vec F S512x1024 .bf16) (wq : Vec F S1024x128 .bf16) (kk vv : Vec F S1x2048x128 .bf16)
    (wo : Vec F S128x1024 .bf16) : FVec F S512x1024 .f32 :=
  k0_pay1 (k0_pay3 x wq kk) (k0_pay6 (iota .tc S512x2048 32 [1] iota_S512x2048_d1_w32) (k0_pay4 i))
    (k0_pay7 (iota .tc S512x2048 32 [1] iota_S512x2048_d1_w32) (k0_pay4 i)) 0#32 vv wo

/-- What the block holds after the point: the contribution at the first head, else added to what it held. -/
def headStep (i : grid0.Coords) (x : Vec F S512x1024 .bf16) (wq : Vec F S1024x128 .bf16) (kk vv : Vec F S1x2048x128 .bf16)
    (wo : Vec F S128x1024 .bf16) (a : Vec F S512x1024 .f32) : FVec F S512x1024 .f32 :=
  if (i 1).val = 0 then contrib i x wq kk vv wo else addf (shapeCast S512x1024 a shapeCasts_S512x1024_S512x1024) (contrib i x wq kk vv wo)

theorem cond1_iff : ∀ n : Fin 8, (Scalar.cmpi .ne (Scalar.extui (Scalar.cmpi .eq (BitVec.ofNat 32 n.val) 0#32) : BitVec 32) 0#32 = 1#1) ↔ n.val = 0 := by decide
theorem cond2_iff : ∀ n : Fin 8, (Scalar.cmpi .ne (Scalar.extui (Scalar.cmpi .ne (BitVec.ofNat 32 n.val) 0#32) : BitVec 32) 0#32 = 1#1) ↔ n.val ≠ 0 := by decide

section Body

variable (c : Dev nD) (i : grid0.Coords)
  {M2 : Memref sig .tc .vmem S512x1024 .bf16} {M3 : Memref sig .tc .vmem S1024x128 .bf16} {M4 M5 : Memref sig .tc .vmem S1x2048x128 .bf16}
  {M6 : Memref sig .tc .vmem S128x1024 .bf16} {M7 : Memref sig .tc .vmem S512x1024 .f32}
  {h2 : M2.IsWhole} {h3 : M3.IsWhole} {h4 : M4.IsWhole} {h5 : M5.IsWhole} {h6 : M6.IsWhole} {h7 : M7.IsWhole}

/-- The six staged blocks. -/
def blocks (M2 : Memref sig .tc .vmem S512x1024 .bf16) (M3 : Memref sig .tc .vmem S1024x128 .bf16) (M4 M5 : Memref sig .tc .vmem S1x2048x128 .bf16)
    (M6 : Memref sig .tc .vmem S128x1024 .bf16) (M7 : Memref sig .tc .vmem S512x1024 .f32)
    (x : Vec F S512x1024 .bf16) (wq : Vec F S1024x128 .bf16) (kk vv : Vec F S1x2048x128 .bf16)
    (wo : Vec F S128x1024 .bf16) (a : Vec F S512x1024 .f32) : sProp 𝕄 :=
  iprop(owns (c : Thread nD τ) M2 fullShare x ∗ owns (c : Thread nD τ) M3 fullShare wq ∗ owns (c : Thread nD τ) M4 fullShare kk
    ∗ owns (c : Thread nD τ) M5 fullShare vv ∗ owns (c : Thread nD τ) M6 fullShare wo ∗ owns (c : Thread nD τ) M7 fullShare a)

set_option maxHeartbeats 1000000 in
theorem attn_run {x : Vec F S512x1024 .bf16} {wq : Vec F S1024x128 .bf16} {kk vv : Vec F S1x2048x128 .bf16}
    {wo : Vec F S128x1024 .bf16} {a : Vec F S512x1024 .f32} {Q : PUnit → sProp 𝕄} :
    blocks c M2 M3 M4 M5 M6 M7 x wq kk vv wo a
      ⊢ iprop((blocks c M2 M3 M4 M5 M6 M7 x wq kk vv wo (headStep i x wq kk vv wo a) -∗ Q ⟨⟩)
        -∗ runs c (cc0__attn_body (F := F) i M2 h2 M3 h3 M4 h4 M5 h5 M6 h6 M7 h7) Q) := by
  have e1 : (k0_cond1 i = 1#1) ↔ (i 1).val = 0 := cond1_iff (i 1)
  have e2 : (k0_cond2 i = 1#1) ↔ (i 1).val ≠ 0 := cond2_iff (i 1)
  simp only [cc0__attn_body_eq_skeleton, cc0__attn_body_skel, k0_part1_eq_skeleton, k0_part1_skel, k0_part2_eq_skeleton, k0_part2_skel,
    Prog.lift, Prog.bind_op, Prog.bind_ret, Prog.pure_eq_ret, Prog.bind_assoc]
  unfold blocks
  iintro ⟨H2, H3, H4, H5, H6, H7⟩ Hk
  iapply (load_block c) $$ H2
  iintro H2
  iapply (load_block c) $$ H3
  iintro H3
  iapply (load_block c) $$ H4
  iintro H4
  iapply (load_block c) $$ H5
  iintro H5
  iapply (load_block c) $$ H6
  iintro H6
  by_cases h : (i 1).val = 0
  · rw [dif_pos (e1.mpr h), dif_neg (fun h' => e2.mp h' h)]
    iapply (load_block c) $$ H7
    iintro H7
    iapply (store_block c) $$ H7
    iintro H7
    iapply (Entails.of_eq (Idealize.SL.Sem.wp_ret _ _ _ PUnit.unit Q).symm)
    imodintro
    iapply Hk
    unfold headStep
    rw [if_pos h]
    isplitl [H2]; · iexact H2
    isplitl [H3]; · iexact H3
    isplitl [H4]; · iexact H4
    isplitl [H5]; · iexact H5
    isplitl [H6]; · iexact H6
    iexact H7
  · rw [dif_neg (fun h' => h (e1.mp h')), dif_pos (e2.mpr h)]
    iapply (load_block c) $$ H7
    iintro H7
    iapply (load_block c) $$ H7
    iintro H7
    iapply (store_block c) $$ H7
    iintro H7
    iapply (Entails.of_eq (Idealize.SL.Sem.wp_ret _ _ _ PUnit.unit Q).symm)
    imodintro
    iapply Hk
    unfold headStep
    rw [if_neg h]
    isplitl [H2]; · iexact H2
    isplitl [H3]; · iexact H3
    isplitl [H4]; · iexact H4
    isplitl [H5]; · iexact H5
    isplitl [H6]; · iexact H6
    iexact H7

end Body

end Cert.KernelIdeal.Talk

end
-- ==== Proof.AttnData.lean ====
/-
  The attention call as a pipeline: what each staged block holds at every grid point. An operand's block is the part of
  its array the window names; the result's block holds the sum of the heads' contributions so far.
-/
module

public import proofs.«01_k».proof.Proof.AttnBody
public import proofs.«01_k».proof.Proof.RingProto
public import proofs.«01_k».proof.Proof.Gen.KernelIdeal.Regions

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

/-! ## The operands' blocks -/

section Blk

variable (V : Valuation τ sig (Elt F)) (t : Fin cfg0.N)

/-- The block of rows of the input. -/
def xBlk : Vec F S512x1024 .bf16 := ((cfg0.win 0).blk t).view.read (Elt F) (V (Pipeline.arrRef spec0 0))
/-- The head's columns of the query weights. -/
def wqBlk : Vec F S1024x128 .bf16 := ((cfg0.win 1).blk t).view.read (Elt F) (V (Pipeline.arrRef spec0 1))
/-- The head's keys. -/
def kBlk : Vec F S1x2048x128 .bf16 := ((cfg0.win 2).blk t).view.read (Elt F) (V (Pipeline.arrRef spec0 2))
/-- The head's values. -/
def vBlk : Vec F S1x2048x128 .bf16 := ((cfg0.win 3).blk t).view.read (Elt F) (V (Pipeline.arrRef spec0 3))
/-- The head's rows of the output weights. -/
def woBlk : Vec F S128x1024 .bf16 := ((cfg0.win 4).blk t).view.read (Elt F) (V (Pipeline.arrRef spec0 4))

end Blk

/-- One grid point's step on the result's block. -/
def stepAt (V : Valuation τ sig (Elt F)) (t : Fin cfg0.N) (a : Vec F S512x1024 .f32) : Vec F S512x1024 .f32 :=
  headStep (grid0.coords t) (xBlk V t) (wqBlk V t) (kBlk V t) (vBlk V t) (woBlk V t) a

/-- The result's block after point `n`. -/
def outAt (V : Valuation τ sig (Elt F)) : (n : ℕ) → n < cfg0.N → Vec F S512x1024 .f32
  | 0, h => contrib (grid0.coords ⟨0, h⟩) (xBlk V ⟨0, h⟩) (wqBlk V ⟨0, h⟩) (kBlk V ⟨0, h⟩) (vBlk V ⟨0, h⟩) (woBlk V ⟨0, h⟩)
  | n + 1, h => stepAt V ⟨n + 1, h⟩ (outAt V n (Nat.lt_of_succ_lt h))

theorem headOf : ∀ t : Fin grid0.N, (grid0.coords t 1).val = t.val % 8 := by decide +kernel

theorem stepAt_reset (V : Valuation τ sig (Elt F)) (t : Fin cfg0.N) (h : t.val % 8 = 0) (a : Vec F S512x1024 .f32) :
    stepAt V t a = contrib (grid0.coords t) (xBlk V t) (wqBlk V t) (kBlk V t) (vBlk V t) (woBlk V t) := by
  unfold stepAt headStep
  exact if_pos ((headOf t).trans h)

/-- The result's block after a first head is its step whatever the block held. -/
theorem outAt_reset (V : Valuation τ sig (Elt F)) (t : Fin cfg0.N) (h : t.val % 8 = 0) (a : Vec F S512x1024 .f32) :
    outAt V t.val t.isLt = stepAt V t a := by
  obtain ⟨n, hn⟩ := t
  cases n with
  | zero => exact (stepAt_reset V ⟨0, hn⟩ h a).symm
  | succ n => exact (stepAt_reset V ⟨n + 1, hn⟩ h _).trans (stepAt_reset V ⟨n + 1, hn⟩ h a).symm

theorem outAt_step (V : Valuation τ sig (Elt F)) (t : Fin cfg0.N) (h : t.val ≠ 0) :
    outAt V t.val t.isLt = stepAt V t (outAt V (t.val - 1) (by omega)) := by
  obtain ⟨n, hn⟩ := t
  cases n with
  | zero => exact absurd rfl h
  | succ n => rfl

/-- The attention call's data. The core owes its ring debts throughout. -/
def dat0 (V : Valuation τ sig (Elt F)) (c : Dev nD) : Pipeline.Dat τ (Elt F) Unit ℕ UU ℕ cfg0 c where
  A w := V (Pipeline.arrRef spec0 w)
  after w t := match w with
    | ⟨0, _⟩ => xBlk V t
    | ⟨1, _⟩ => wqBlk V t
    | ⟨2, _⟩ => kBlk V t
    | ⟨3, _⟩ => vBlk V t
    | ⟨4, _⟩ => woBlk V t
    | ⟨5, _⟩ => outAt V t.val t.isLt
    | ⟨_ + 6, h⟩ => absurd h (Nat.not_lt.2 (Nat.le_add_left _ _))
  Φ _ := Pipeline.scopedRest spec0 c
  q _ := fullShare
  owed _ := O₀ c

section Before

variable (V : Valuation τ sig (Elt F)) (c : Dev nD) (t : Fin cfg0.N)

theorem before0 (d) : (dat0 V c).before 0 t d = xBlk V t :=
  ((dat0 V c).before_in_eq_fetched 0 rfl (fun _ => rfl) (fun _ _ _ => rfl) (fun _ => rfl) t d).trans (by
    unfold Dat.fetched Dat.blockOf; dsimp only [dat0]; rfl)
theorem before1 (d) : (dat0 V c).before 1 t d = wqBlk V t :=
  ((dat0 V c).before_in_eq_fetched 1 rfl (fun _ => rfl) (fun _ _ _ => rfl) (fun _ => rfl) t d).trans (by
    unfold Dat.fetched Dat.blockOf; dsimp only [dat0]; rfl)
theorem before2 (d) : (dat0 V c).before 2 t d = kBlk V t :=
  ((dat0 V c).before_in_eq_fetched 2 rfl (fun _ => rfl) (fun _ _ _ => rfl) (fun _ => rfl) t d).trans (by
    unfold Dat.fetched Dat.blockOf; dsimp only [dat0]; rfl)
theorem before3 (d) : (dat0 V c).before 3 t d = vBlk V t :=
  ((dat0 V c).before_in_eq_fetched 3 rfl (fun _ => rfl) (fun _ _ _ => rfl) (fun _ => rfl) t d).trans (by
    unfold Dat.fetched Dat.blockOf; dsimp only [dat0]; rfl)
theorem before4 (d) : (dat0 V c).before 4 t d = woBlk V t :=
  ((dat0 V c).before_in_eq_fetched 4 rfl (fun _ => rfl) (fun _ _ _ => rfl) (fun _ => rfl) t d).trans (by
    unfold Dat.fetched Dat.blockOf; dsimp only [dat0]; rfl)

/-- Every point stores the result's block, under one condition or the other. -/
theorem live5 (i : grid0.Coords) : cfg0.idle 5 i = false := by
  have e1 : (k0_cond1 i = 1#1) ↔ (i 1).val = 0 := cond1_iff (i 1)
  have e2 : (k0_cond2 i = 1#1) ↔ (i 1).val ≠ 0 := cond2_iff (i 1)
  show (!(k0_cond1 i == 1#1) && !(k0_cond2 i == 1#1)) = false
  by_cases h : (i 1).val = 0
  · rw [e1.mpr h]; rfl
  · rw [e2.mpr h]; exact Bool.and_false _

/-- The step from what the result's block held at the point's start gives what it holds after. -/
theorem step5 (d) : stepAt V t ((dat0 V c).before 5 t d) = outAt V t.val t.isLt := by
  by_cases h : t.val % 8 = 0
  · exact (outAt_reset V t h _).symm
  · have ht : t.val ≠ 0 := fun h' => h (by rw [h'])
    have hfl : ¬ (cfg0.win 5).flush ⟨t.val - 1, Nat.lt_of_le_of_lt (Nat.sub_le _ _) t.isLt⟩ = true := fun h' => by
      have := (flush0_5 _).mp h'; dsimp only at this; omega
    rw [(dat0 V c).before_out_kept 5 rfl t ht (by simpa using hfl) live5 (fun _ _ => rfl) d, outAt_step V t ht]
    rfl

end Before

/-- The attention body's obligation. -/
theorem body0 (V : Valuation τ sig (Elt F)) (c : Dev nD) : BodyObligation (dat0 V c) defs₀ 𝒱₀ () Set.univ := fun t => by
  rw [bigSep_W0, bigSep_W0]
  simp only [before0, before1, before2, before3, before4]
  have hl : idle0 5 (grid0.coords t) = false := live5 _
  simp only [hl]
  rw [show (dat0 V c).Φ t.succ = (dat0 V c).Φ t.castSucc from rfl,
    show (dat0 V c).owesAt () t.succ = (dat0 V c).owesAt () t.castSucc from rfl]
  iintro ⟨HΦ, HO, ⟨%d0, H0⟩, ⟨%d1, H1⟩, ⟨%d2, H2⟩, ⟨%d3, H3⟩, ⟨%d4, H4⟩, ⟨%d5, H5⟩⟩
  iapply (attn_run c (grid0.coords t) (x := xBlk V t) (wq := wqBlk V t) (kk := kBlk V t) (vv := vBlk V t) (wo := woBlk V t)
    (a := (dat0 V c).before 5 t d5)) $$ [H0 H1 H2 H3 H4 H5]
  · unfold blocks
    isplitl [H0]; · iexact H0
    isplitl [H1]; · iexact H1
    isplitl [H2]; · iexact H2
    isplitl [H3]; · iexact H3
    isplitl [H4]; · iexact H4
    iexact H5
  unfold blocks
  iintro ⟨H0, H1, H2, H3, H4, H5⟩
  ihave H5' := (Entails.of_eq (show (owns (c : Thread nD τ) (st0_5 t) fullShare (headStep (grid0.coords t) (xBlk V t) (wqBlk V t) (kBlk V t)
      (vBlk V t) (woBlk V t) ((dat0 V c).before 5 t d5)) : sProp 𝕄) = owns (c : Thread nD τ) (st0_5 t) fullShare (outAt V t.val t.isLt)
    from congrArg (owns (c : Thread nD τ) (st0_5 t) fullShare) (step5 V c t d5))) $$ H5
  isplitl [HΦ]; · iexact HΦ
  isplitl [HO]; · iexact HO
  isplitl [H0]; · iexact H0
  isplitl [H1]; · iexact H1
  isplitl [H2]; · iexact H2
  isplitl [H3]; · iexact H3
  isplitl [H4]; · iexact H4
  iexact H5'

end Cert.KernelIdeal.Talk

end
-- ==== Proof.RingSplit.lean ====
/-
  The accumulator cut into its eight row chunks and joined again, and the landing buffer cut into its seven slots.
-/
module

public import proofs.«01_k».proof.Proof.RingProto

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Arr F)

/-- The accumulator and the landing buffer, whole, on device `d`. -/
abbrev aW (d : Dev nD) (f : Arr F) : sProp 𝕄 := aM.view.loc (d : Thread nD τ) ↦{fullShare} f
abbrev wW (d : Dev nD) (f : FVec F S7x256x1024 .f32) : sProp 𝕄 := wM.view.loc (d : Thread nD τ) ↦{fullShare} f

theorem mem_ch (k : Dev nD) (i : S2048x1024.Idx) : i ∈ (chM k).view.set ↔ (i 0).val / 256 = k.val := by
  show i ∈ ((View.whole cc1_stg1_0 : View sig .tc _ _ _).slice (chR k)).set ↔ _
  rw [View.set_slice_whole]
  refine Rect.mem_set_unit.trans ⟨fun h => ?_, fun h a => ?_⟩
  · have h0 : 256 * k.val ≤ (i 0).val ∧ (i 0).val < 256 * k.val + 256 := h 0
    omega
  · match a with
    | ⟨0, _⟩ =>
      show 256 * k.val ≤ (i 0).val ∧ (i 0).val < 256 * k.val + 256
      omega
    | ⟨1, _⟩ => exact ⟨Nat.zero_le _, (show (i 1).val < 0 + 1024 by have : (i 1).val < 1024 := (i 1).isLt; omega)⟩

theorem mem_sl (s : ℕ) (i : S7x256x1024.Idx) : i ∈ (slM s).view.set ↔ (i 0).val = s % 7 := by
  have hs : (slM s).view.set = ((View.whole cc1_scratch0 : View sig .tc _ _ _).slice (slR s)).set := View.set_reshape _ _
  rw [hs, View.set_slice_whole]
  refine Rect.mem_set_unit.trans ⟨fun h => ?_, fun h a => ?_⟩
  · have h0 : s % 7 ≤ (i 0).val ∧ (i 0).val < s % 7 + 1 := h 0
    omega
  · match a with
    | ⟨0, _⟩ =>
      show s % 7 ≤ (i 0).val ∧ (i 0).val < s % 7 + 1
      omega
    | ⟨1, _⟩ => exact ⟨Nat.zero_le _, (show (i 1).val < 0 + 256 by have : (i 1).val < 256 := (i 1).isLt; omega)⟩
    | ⟨2, _⟩ => exact ⟨Nat.zero_le _, (show (i 2).val < 0 + 1024 by have : (i 2).val < 1024 := (i 2).isLt; omega)⟩

/-- Eight places leftward of `e` are the eight devices. -/
theorem dn_inj (e : Dev nD) {j j' : ℕ} (hj : j < 8) (hj' : j' < 8) (h : dn e j = dn e j') : j = j' := by
  have h' := congrArg Fin.val h
  have : e.val < 8 := e.isLt
  simp only [dn_val] at h'; omega
theorem dn_onto (e : Dev nD) (k : ℕ) (hk : k < 8) : ∃ j < 8, (dn e j).val = k := by
  have : e.val < 8 := e.isLt
  exact ⟨(e.val + 8 - k) % 8, Nat.mod_lt _ (by decide), by simp only [dn_val]; omega⟩

theorem acc_whole (d e : Dev nD) (f : Arr F) :
    aW d f = bigSep (Finset.Ico 0 8) fun j => chP d (dn e j) f := by
  have h := pointsTo_biUnion (nD := nD) (τ := τ) (sig := sig) (Ix := Unit) (Val := Elt F) (Name := ℕ) (U := UU) (Lvl := ℕ)
    (ℓ := aM.view.loc (d : Thread nD τ)) (q := fullShare) (f := f) (Finset.Ico 0 8) (fun j => (chM (dn e j)).view.set) fun j hj j' hj' hne =>
      Finset.disjoint_left.mpr fun i hi hi' => hne (dn_inj e (Finset.mem_Ico.mp hj).2 (Finset.mem_Ico.mp hj').2
        (dev_ext (((mem_ch _ i).mp hi).symm.trans ((mem_ch _ i).mp hi'))))
  refine Eq.trans ?_ h
  refine congrArg (fun S => (aM.view.loc (d : Thread nD τ) ↦[S]{fullShare} f : sProp 𝕄)) (Finset.ext fun i => ?_)
  obtain ⟨j, hj, h⟩ := dn_onto e ((i 0).val / 256) (Nat.div_lt_of_lt_mul (show (i 0).val < 256 * 8 from (i 0).isLt))
  exact ⟨fun _ => Finset.mem_biUnion.mpr ⟨j, Finset.mem_Ico.mpr ⟨Nat.zero_le _, hj⟩, (mem_ch _ i).mpr h.symm⟩, fun _ => Finset.mem_univ i⟩

/-- The eight finished chunks are the finished array. -/
theorem fin_whole (d e : Dev nD) :
    (bigSep (Finset.Ico 0 8) fun j => chP d (dn e j) (acc P (dn e j) 7)) = aW d (total P) := by
  rw [acc_whole d e (total P)]
  refine congrArg (bigSep (Finset.Ico 0 8)) (funext fun j => pointsTo_congr fun i hi => ?_)
  unfold total
  exact congrArg (fun k => acc P k 7 i) (dev_ext ((mem_ch _ i).mp hi).symm)

theorem slots_disjoint : ∀ s ∈ Finset.Ico 0 7, ∀ s' ∈ Finset.Ico 0 7, s ≠ s' → Disjoint (slM s).view.set (slM s').view.set := fun s hs s' hs' hne =>
  Finset.disjoint_left.mpr fun i hi hi' => hne (by
    have h1 := (mem_sl _ i).mp hi
    have h2 := (mem_sl _ i).mp hi'
    have := (Finset.mem_Ico.mp hs).2
    have := (Finset.mem_Ico.mp hs').2
    omega)

theorem slots_whole (d : Dev nD) (f : FVec F S7x256x1024 .f32) {K : ℕ → Finset (Idx (wM.view.loc (d : Thread nD τ)))} (hK : K = fun s => (slM s).view.set) :
    (wM.view.loc (d : Thread nD τ) ↦[(Finset.Ico 0 7).biUnion K]{fullShare} f : sProp 𝕄) = wW d f := by
  subst hK
  refine congrArg (fun S => (wM.view.loc (d : Thread nD τ) ↦[S]{fullShare} f : sProp 𝕄)) (Finset.ext fun i => ?_)
  have h : (i 0).val < 7 := (i 0).isLt
  exact ⟨fun _ => Finset.mem_univ i, fun _ => Finset.mem_biUnion.mpr
    ⟨(i 0).val, Finset.mem_Ico.mpr ⟨Nat.zero_le _, h⟩, (mem_sl _ i).mpr (by omega)⟩⟩

theorem slots_split (d : Dev nD) (f : FVec F S7x256x1024 .f32) : wW d f ⊢ bigSep (Finset.Ico 0 7) fun s => iprop(∃ f, slP (F := F) d s f) := by
  have h := pointsTo_biUnion (nD := nD) (τ := τ) (sig := sig) (Ix := Unit) (Val := Elt F) (Name := ℕ) (U := UU) (Lvl := ℕ)
    (ℓ := wM.view.loc (d : Thread nD τ)) (q := fullShare) (f := f) (Finset.Ico 0 7) (fun s => (slM s).view.set) slots_disjoint
  rw [← slots_whole d f rfl]
  refine (Entails.of_eq h).trans (bigSep_mono fun s _ => ?_)
  show slP d s f ⊢ iprop(∃ f, slP (F := F) d s f)
  iintro H; iexists f; iexact H

theorem slots_join (d : Dev nD) : (bigSep (Finset.Ico 0 7) fun s => iprop(∃ f, slP (F := F) d s f)) ⊢ (iprop(∃ f, wW d f) : sProp 𝕄) := by
  have f₀ : FVec F S7x256x1024 .f32 := constant S7x256x1024 .f32 0#32
  have : Nonempty (FVec F S7x256x1024 .f32) := ⟨f₀⟩
  refine (bigSep_exists_pi (Finset.Ico 0 7) (fun s (f : FVec F S7x256x1024 .f32) => slP (F := F) d s f)).trans ?_
  iintro ⟨%fs, H⟩
  ihave H := (pointsTo_biUnion_join (ℓ := wM.view.loc (d : Thread nD τ)) (q := fullShare) (Finset.Ico 0 7) (fun s => (slM s).view.set) fs f₀ slots_disjoint) $$ H
  icases H with ⟨%g, -, H⟩
  iexists g
  ihave H := (Entails.of_eq (slots_whole d g rfl)) $$ H
  iexact H

end Cert.KernelIdeal.Talk

end
-- ==== Proof.RingBody.lean ====
/-
  The ring kernel's body run whole on one device: the barrier, the copy of the addend into the accumulator, seven steps
  of the reduce-scatter, seven of the all-gather.
-/
module

public import proofs.«01_k».proof.Proof.RingOps
public import proofs.«01_k».proof.Proof.RingSplit

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (P : Dev nD → Arr F) (K : GSem nD τ sig → ℕ) (c : Dev nD)

/-- The addend's staging buffer, whole. -/
abbrev pW (f : Arr F) : sProp 𝕄 := pM.view.loc (c : Thread nD τ) ↦{fullShare} f

/-- The tokens a device pays its two neighbours' barrier cells with, and the barrier credit it waits with. -/
def barIn : sProp 𝕄 :=
  iprop((dutyTok ER (barC (up c 1)) 0 false ∗ dutyTok ER (barC (dn c 1)) 0 true) ∗ (reached ER (barC (up c 1)) 0 ∗ reached ER (barC (dn c 1)) 0)
    ∗ atPos ER (barC c) 0 ∅ 0 ∗ cred (tallyAt (barC c) () 2))
/-- What a device hands its left neighbour. -/
def give : sProp 𝕄 :=
  bigSep (Finset.Ico 0 7) fun s => iprop((∃ f, slP (F := F) c s f) ∗ reached ER (rsC c s) 0 ∗ reached ER (agC c s) 0)
/-- The tokens for the right neighbour's receive cells, and what is needed to wait on the own ones. -/
def rsToks : sProp 𝕄 := bigSep (Finset.Ico 0 7) fun j => iprop(dutyTok ER (rsC (up c 1) j) 0 false ∗ rsIn (F := F) c j)
def agToks : sProp 𝕄 := bigSep (Finset.Ico 0 7) fun j => iprop(dutyTok ER (agC (up c 1) j) 0 false ∗ agIn (F := F) c j)

/-- What the body is run with, and what it ends in. -/
def pre : sProp 𝕄 :=
  iprop(owing (F := F) c (O₀ c) ∗ barIn (F := F) c ∗ give (F := F) c ∗ sndAt (F := F) c 0 ∗ rsToks (F := F) c ∗ agToks (F := F) c ∗ pW c (P c) ∗ ∃ f, aW (F := F) c f)
def post : sProp 𝕄 :=
  iprop(owing (F := F) c 0 ∗ (semVal (barC c) 0 ∗ semVal (sndC c) 0 ∗ bigSep (Finset.Ico 0 7) (fun j => semVal (rsC c j) 0) ∗ bigSep (Finset.Ico 0 7) (fun j => semVal (agC c j) 0))
    ∗ (∃ f, wW (F := F) c f) ∗ pW c (P c) ∗ aW c (total P))

/-- The neighbour's slots and the tokens, put together step by step. -/
theorem futs : iprop(barPay (F := F) c ∗ rsToks (F := F) c ∗ agToks (F := F) c)
    ⊢ iprop(bigSep (Finset.Ico 0 7) (rsFut (F := F) c) ∗ bigSep (Finset.Ico 0 7) (agFut (F := F) c)) := by
  have h : iprop(bigSep (Finset.Ico 0 7) (rsFut (F := F) c) ∗ bigSep (Finset.Ico 0 7) (agFut (F := F) c))
      = bigSep (Finset.Ico 0 7) fun j => iprop(rsFut (F := F) c j ∗ agFut (F := F) c j) := (bigSep_sep _ _ _).symm
  have h' : iprop(barPay (F := F) c ∗ rsToks (F := F) c ∗ agToks (F := F) c)
      = bigSep (Finset.Ico 0 7) fun s => iprop(((∃ f, slP (F := F) (up c 1) s f) ∗ reached ER (rsC (up c 1) s) 0 ∗ reached ER (agC (up c 1) s) 0)
        ∗ ((dutyTok ER (rsC (up c 1) s) 0 false ∗ rsIn (F := F) c s) ∗ (dutyTok ER (agC (up c 1) s) 0 false ∗ agIn (F := F) c s))) := by
    unfold barPay rsToks agToks
    exact (congrArg (BI.sep _) (bigSep_sep _ _ _).symm).trans (bigSep_sep _ _ _).symm
  rw [h, h']
  refine bigSep_mono fun s _ => ?_
  show iprop(((∃ f, slP (F := F) (up c 1) s f) ∗ reached ER (rsC (up c 1) s) 0 ∗ reached ER (agC (up c 1) s) 0)
        ∗ ((dutyTok ER (rsC (up c 1) s) 0 false ∗ rsIn (F := F) c s) ∗ (dutyTok ER (agC (up c 1) s) 0 false ∗ agIn (F := F) c s)))
    ⊢ iprop(rsFut (F := F) c s ∗ agFut (F := F) c s)
  unfold rsFut agFut
  iintro ⟨⟨Hsl, Hr, Hr'⟩, ⟨Ht, Hi⟩, ⟨Ht', Hi'⟩⟩
  isplitl [Hsl Hr Ht Hi]
  · isplitr [Hi]
    · isplitl [Ht]; · iexact Ht
      isplitl [Hr]; · iexact Hr
      iexact Hsl
    iexact Hi
  isplitr [Hi']
  · isplitl [Ht']; · iexact Ht'
    iexact Hr'
  iexact Hi'

/-- The closed receive cells and the slots, apart. -/
theorem pasts : bigSep (Finset.Ico 0 7) (rsPast (F := F) c)
    ⊢ iprop(bigSep (Finset.Ico 0 7) (fun j => semVal (rsC c j) 0) ∗ ∃ f, wW (F := F) c f) := by
  have h : bigSep (Finset.Ico 0 7) (rsPast (F := F) c)
      = iprop(bigSep (Finset.Ico 0 7) (fun j => semVal (rsC c j) 0) ∗ bigSep (Finset.Ico 0 7) fun j => iprop(∃ f, slP (F := F) c j f)) := bigSep_sep _ _ _
  rw [h]
  exact sep_mono_right (slots_join c)

/-- The accumulator after the copy. -/
theorem copied (p f : Arr F) (h h') :
    (aM.access (Rect.unit (s := S2048x1024) ![0, 0] S2048x1024.size h)).write (Elt F) f
      (k1_pay1 (F := F) ((pM.access (Rect.unit (s := S2048x1024) ![0, 0] S2048x1024.size h')).read (Elt F) p)) Finset.univ = p := by
  have h0 : (![0, 0] : Fin 2 → ℕ) = fun _ => 0 := by decide
  have h1 := Memref.write_access_unit_zero_univ (Elt F) cc1_stg1_0 (off := ![0, 0]) h0 h f
    (k1_pay1 (F := F) ((pM.access (Rect.unit (s := S2048x1024) ![0, 0] S2048x1024.size h')).read (Elt F) p))
  have h2 := Memref.readAt_unit_zero (Elt F) cc1_stg0_0 (off := ![0, 0]) h0 h' p
  exact h1.trans ((shapeCast_self (s := S2048x1024) _ _).trans h2)

/-- The copy of the addend into the accumulator. -/
theorem copy_step {α : Type} {k : PUnit → Prog (TpuEff nD τ sig (Elt F) Λ₀ .tc) α} {Q : α → sProp 𝕄} {f : Arr F} {h₁ h₂ h₃ h₄ h₅ h₆ h₇} :
    iprop(pW c (P c) ∗ aW c f) ⊢ iprop((pW c (P c) ∗ aW c (P c) -∗ runs c (k ⟨⟩) Q)
      -∗ runs c (.op (.load pM (Rect.unit (s := S2048x1024) ![0, 0] S2048x1024.size h₁).toLoadRect h₂) fun v =>
          .op (.load aM (Rect.unit (s := S2048x1024) ![0, 0] S2048x1024.size h₃).toLoadRect h₄) fun _ =>
          .op (.store aM (Rect.unit (s := S2048x1024) ![0, 0] S2048x1024.size h₅) (k1_pay1 v) Finset.univ h₆ h₇) k) Q) := by
  iintro ⟨Hp, Ha⟩ Hk
  iapply (wp_load_rect 𝒱₀ (c : Thread nD τ) none Set.univ (m := pM) (r := Rect.unit (s := S2048x1024) ![0, 0] S2048x1024.size h₁) (S := Finset.univ) (Finset.subset_univ _)) $$ Hp
  iintro Hp
  iapply (wp_load_rect 𝒱₀ (c : Thread nD τ) none Set.univ (m := aM) (r := Rect.unit (s := S2048x1024) ![0, 0] S2048x1024.size h₃) (S := Finset.univ) (Finset.subset_univ _)) $$ Ha
  iintro Ha
  iapply (wp_store 𝒱₀ (c : Thread nD τ) none Set.univ (m := aM) (r := Rect.unit (s := S2048x1024) ![0, 0] S2048x1024.size h₅) (S := Finset.univ) (Finset.subset_univ _)) $$ Ha
  iintro Ha
  ihave Ha := (Entails.of_eq (congrArg (aW c) (copied (P c) f h₅ h₁))) $$ Ha
  iapply Hk
  isplitl [Hp]; · iexact Hp
  iexact Ha

set_option maxHeartbeats 4000000 in
set_option maxRecDepth 20000 in
theorem ring_run {hp : pM.IsWhole} {ha : aM.IsWhole} {hw : wM.IsWhole} {Q : PUnit → sProp 𝕄} :
    iprop(Ctx P K ∗ pre P c) ⊢ iprop((post P c -∗ Q ⟨⟩) -∗ runs c (cc1_body (F := F) pM hp aM ha wM hw cc1_scratch1 cc1_scratch2 cc1_scratch3) Q) := by
  simp only [cc1_body_eq_skeleton, cc1_body_skel, k1_part1_eq_skeleton, k1_part1_skel, k1_part2_eq_skeleton, k1_part2_skel,
    k1_part3_eq_skeleton, k1_part3_skel, k1_part4_eq_skeleton, k1_part4_skel, k1_part5_eq_skeleton, k1_part5_skel,
    k1_part6_eq_skeleton, k1_part6_skel, k1_part7_eq_skeleton, k1_part7_skel, k1_part8_eq_skeleton, k1_part8_skel,
    k1_part9_eq_skeleton, k1_part9_skel, k1_part10_eq_skeleton, k1_part10_skel, k1_part11_eq_skeleton, k1_part11_skel,
    k1_part12_eq_skeleton, k1_part12_skel, k1_part13_eq_skeleton, k1_part13_skel, k1_part14_eq_skeleton, k1_part14_skel,
    k1_part15_eq_skeleton, k1_part15_skel, k1_part16_eq_skeleton, k1_part16_skel, k1_part17_eq_skeleton, k1_part17_skel,
    k1_part18_eq_skeleton, k1_part18_skel, k1_part19_eq_skeleton, k1_part19_skel,
    semSignalWord, semWaitWord, Prog.lift, Prog.bind_op, Prog.bind_ret, Prog.pure_eq_ret, Prog.bind_assoc, wp_deviceId]
  unfold pre barIn owing
  iintro ⟨#HC, ⟨%W, HO⟩, ⟨⟨HtR, HtL⟩, ⟨#HrR, #HrL⟩, HatB, HcB⟩, Hgive, Hsnd, HrsT, HagT, Hp, ⟨%f0, Ha⟩⟩ Hk
  -- the two signals
  iapply (Rounds.wp_signal 𝒱₀ ER (Rd P) (c : Thread nD τ) none (dst := ((⟨k1_dev1 c, k1_dev1_lt c⟩ : Dev nD) : Thread nD τ)) (sem := barS) (r := 0) (d := true) (κ := K (barC (dn c 1)))
      (by rw [duties_bar]; exact Finset.mem_univ _) rfl () (O₀ := O₀ c) (oRS c 0 + oAG c 0 + tallyAt (barC (up c 1)) () 1)
      (by rw [dev1_eq]; rfl) (W := W)) $$ [HO HtL Hgive]
  · rw [dev1_eq]
    isplitr; · iapply (ctx_bar P K (dn c 1)); iexact HC
    isplitl [HO]; · iexact HO
    isplitl [HtL]; · iexact HtL
    isplitl [Hgive]
    · iapply (Entails.of_eq (show give (F := F) c = (Rd P).payload (barC (dn c 1)) 0 true by
        show give (F := F) c = barPay (dn c 1)
        unfold give barPay; rw [up_dn c 1 (by omega)]))
      iexact Hgive
    iexact HrL
  iintro HO
  iapply (Rounds.wp_signal 𝒱₀ ER (Rd P) (c : Thread nD τ) none (dst := ((⟨k1_dev2 c, k1_dev2_lt c⟩ : Dev nD) : Thread nD τ)) (sem := barS) (r := 0) (d := false) (κ := K (barC (up c 1)))
      (by rw [duties_bar]; exact Finset.mem_univ _) rfl () (O₀ := oRS c 0 + oAG c 0 + tallyAt (barC (up c 1)) () 1) (oRS c 0 + oAG c 0)
      (by rw [dev2_eq]; rfl) (W := W)) $$ [HO HtR]
  · rw [dev2_eq]
    isplitr; · iapply (ctx_bar P K (up c 1)); iexact HC
    isplitl [HO]; · iexact HO
    isplitl [HtR]; · iexact HtR
    isplitr
    · iapply (Entails.of_eq (show (iprop(emp) : sProp 𝕄) = (Rd P).payload (barC (up c 1)) 0 false from rfl))
      iempintro
    iexact HrR
  iintro HO
  -- the wait for both neighbours
  iapply (Rounds.wp_wait_rest_token 𝒱₀ ER (Rd P) (c : Thread nD τ) none (κ := K (barC c))
      (wpE_semWait_eq 𝒱₀ (c : Thread nD τ) none Set.univ) (Set.mem_univ _) () (O := oRS c 0 + oAG c 0) (W := W) (R := 0) (m := 0) (T := ∅)
      (by rw [expect_bar]; decide)) $$ [HcB HO HatB]
  · isplitr; · iapply (ctx_bar P K c); iexact HC
    isplitl [HcB]; · iexact HcB
    isplitl [HO]; · iexact HO
    isplitr
    · iapply (mayWait c (.reg barS) 1 (le_of_eq (lv_bar c)) (above_add (above_oRS c 1 0 (by omega)) (above_oAG c 1 0 (by omega))))
      iapply (ctx_lev P K); iexact HC
    iexact HatB
  iintro ⟨HO, HatB, -, Hpay⟩
  ihave Hp1 := (Entails.of_eq (rest_bar P c)) $$ Hpay
  icases Hp1 with ⟨-, Hbar⟩
  ihave Hf := (futs (F := F) c) $$ [Hbar HrsT HagT]
  · isplitl [Hbar]; · iexact Hbar
    isplitl [HrsT]; · iexact HrsT
    iexact HagT
  icases Hf with ⟨Hrs, Hag⟩
  -- the addend copied into the accumulator
  iapply (copy_step P c) $$ [Hp Ha]
  · isplitl [Hp]; · iexact Hp
    iexact Ha
  iintro ⟨Hp, Ha⟩
  ihave Ha := (Entails.of_eq ((acc_whole c c (P c)).trans (bigSep_Ico_succ_bot (show 0 < 8 by omega) _))) $$ Ha
  icases Ha with ⟨Ha0, Haw⟩
  ihave Hs : rsA P c 0 $$ [HO Hsnd Hrs Ha0 Haw]
  · unfold rsA owing
    isplitl [HO]; · iexists _; iexact HO
    isplitl [Hsnd]; · iexact Hsnd
    isplitl [Hrs]; · iexact Hrs
    isplitr; · iempintro
    isplitl [Ha0]
    · isplitl [Ha0]
      · iapply (Entails.of_eq (show chP c (dn c 0) (P c) = chP c (dn c 0) (acc P (dn c 0) 0) by rw [acc, dn_zero])); iexact Ha0
      iempintro
    unfold raw
    iexact Haw
  -- the reduce-scatter
  iapply (rs_step P K c 0 (by omega) (dev3_eq c) (off1_eq c 0 (by omega)) (off2_eq c 0 (by omega)) rfl sndS_eq (rsS_eq 0 _) (fun _ _ => rfl)) $$ [Hs]
  · isplitr; · iexact HC
    iexact Hs
  iintro Hs
  iapply (rs_step P K c 1 (by omega) (dev4_eq c) (off1_eq c 1 (by omega)) (off2_eq c 1 (by omega)) rfl sndS_eq (rsS_eq 1 _) (fun _ _ => rfl)) $$ [Hs]
  · isplitr; · iexact HC
    iexact Hs
  iintro Hs
  iapply (rs_step P K c 2 (by omega) (dev5_eq c) (off1_eq c 2 (by omega)) (off2_eq c 2 (by omega)) rfl sndS_eq (rsS_eq 2 _) (fun _ _ => rfl)) $$ [Hs]
  · isplitr; · iexact HC
    iexact Hs
  iintro Hs
  iapply (rs_step P K c 3 (by omega) (dev6_eq c) (off1_eq c 3 (by omega)) (off2_eq c 3 (by omega)) rfl sndS_eq (rsS_eq 3 _) (fun _ _ => rfl)) $$ [Hs]
  · isplitr; · iexact HC
    iexact Hs
  iintro Hs
  iapply (rs_step P K c 4 (by omega) (dev7_eq c) (off1_eq c 4 (by omega)) (off2_eq c 4 (by omega)) rfl sndS_eq (rsS_eq 4 _) (fun _ _ => rfl)) $$ [Hs]
  · isplitr; · iexact HC
    iexact Hs
  iintro Hs
  iapply (rs_step P K c 5 (by omega) (dev8_eq c) (off1_eq c 5 (by omega)) (off2_eq c 5 (by omega)) rfl sndS_eq (rsS_eq 5 _) (fun _ _ => rfl)) $$ [Hs]
  · isplitr; · iexact HC
    iexact Hs
  iintro Hs
  iapply (rs_step P K c 6 (by omega) (dev9_eq c) (off1_eq c 6 (by omega)) (off2_eq c 6 (by omega)) rfl sndS_eq (rsS_eq 6 _) (fun _ _ => rfl)) $$ [Hs]
  · isplitr; · iexact HC
    iexact Hs
  iintro Hs
  -- between the two
  unfold rsA
  icases Hs with ⟨HO, Hsnd, -, Hpast, ⟨Hch, Htrav⟩, -⟩
  ihave Hs : agA P c 0 $$ [HO Hsnd Hag Hch Htrav]
  · unfold agA
    isplitl [HO]
    · iapply (Entails.of_eq (show owing (F := F) c (oRS c 7 + oAG c 0) = owing c (oAG c 0) by rw [oRS_seven, zero_add])); iexact HO
    isplitl [Hsnd]; · iexact Hsnd
    isplitl [Hag]; · iexact Hag
    isplitr; · iempintro
    isplitl [Hch Htrav]
    · rw [dn_zero, ← dn_seven c]
      isplitl [Hch]; · iexact Hch
      iexact Htrav
    unfold fin; iempintro
  -- the all-gather
  iapply (ag_step P K c 0 (by omega) (dev10_eq c) (off3_eq c 0 (by omega)) sndS_eq (agS_eq 0 _)) $$ [Hs]
  · isplitr; · iexact HC
    iexact Hs
  iintro Hs
  iapply (ag_step P K c 1 (by omega) (dev11_eq c) (off3_eq c 1 (by omega)) sndS_eq (agS_eq 1 _)) $$ [Hs]
  · isplitr; · iexact HC
    iexact Hs
  iintro Hs
  iapply (ag_step P K c 2 (by omega) (dev12_eq c) (off3_eq c 2 (by omega)) sndS_eq (agS_eq 2 _)) $$ [Hs]
  · isplitr; · iexact HC
    iexact Hs
  iintro Hs
  iapply (ag_step P K c 3 (by omega) (dev13_eq c) (off3_eq c 3 (by omega)) sndS_eq (agS_eq 3 _)) $$ [Hs]
  · isplitr; · iexact HC
    iexact Hs
  iintro Hs
  iapply (ag_step P K c 4 (by omega) (dev14_eq c) (off3_eq c 4 (by omega)) sndS_eq (agS_eq 4 _)) $$ [Hs]
  · isplitr; · iexact HC
    iexact Hs
  iintro Hs
  iapply (ag_step P K c 5 (by omega) (dev15_eq c) (off3_eq c 5 (by omega)) sndS_eq (agS_eq 5 _)) $$ [Hs]
  · isplitr; · iexact HC
    iexact Hs
  iintro Hs
  iapply (ag_step P K c 6 (by omega) (dev16_eq c) (off3_eq c 6 (by omega)) sndS_eq (agS_eq 6 _)) $$ [Hs]
  · isplitr; · iexact HC
    iexact Hs
  iintro Hs
  unfold agA sndAt
  icases Hs with ⟨HO, ⟨-, HatS, -⟩, -, Hag, ⟨Hch, -⟩, Hfin⟩
  -- the last two cells closed
  iapply (Entails.of_eq (Idealize.SL.Sem.wp_ret _ _ _ PUnit.unit Q).symm)
  imod (Rounds.cell_close ER (Rd P) (κ := K (barC c)) (g := barC c) (Set.mem_univ _) id (later_bar P c)) $$ [HatB] with Hb0
  · isplitr; · iapply (ctx_bar P K c); iexact HC
    iexact HatB
  imod (Rounds.cell_close ER (Rd P) (κ := K (sndC c)) (g := sndC c) (Set.mem_univ _) id (later_snd P c)) $$ [HatS] with Hs0
  · isplitr; · iapply (ctx_snd P K c); iexact HC
    iexact HatS
  imodintro
  ihave Hpast := (pasts (F := F) c) $$ Hpast
  icases Hpast with ⟨Hrs0, Hw⟩
  iapply Hk
  unfold post
  isplitl [HO]; · iexact HO
  isplitl [Hb0 Hs0 Hrs0 Hag]
  · isplitl [Hb0]; · iexact Hb0
    isplitl [Hs0]; · iexact Hs0
    isplitl [Hrs0]; · iexact Hrs0
    iexact Hag
  isplitl [Hw]; · iexact Hw
  isplitl [Hp]; · iexact Hp
  iapply (Entails.of_eq (fin_whole P c (up c 1)))
  iapply (Entails.of_eq (bigSep_Ico_succ_top (show 0 ≤ 7 by omega) fun j => chP c (dn (up c 1) j) (acc P (dn (up c 1) j) 7)).symm)
  isplitl [Hch]; · iexact Hch
  unfold fin
  iexact Hfin

end Cert.KernelIdeal.Talk

end
-- ==== Proof.RingOpen.lean ====
/-
  The ring's cells of one device taken together: the fifteen transfer cells as one family, opened at the entry of the
  call and split into the send cell, the reduce-scatter cells and the all-gather cells; and the duties' tokens dealt the
  same way.
-/
module

public import proofs.«01_k».proof.Proof.RingBody
public import Idealize.ShloMosaic.Lib.Rounds.Family

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Stretches of a numbered family -/

section Stretch

variable {M : Type} [URA M]

theorem bigSep_both {I : Type} {S : Finset I} {f g : I → sProp M} : iprop(bigSep S f ∗ bigSep S g) ⊢ bigSep S fun j => iprop(f j ∗ g j) :=
  Entails.of_eq (bigSep_sep _ _ _).symm
theorem bigSep_apart {I : Type} {S : Finset I} {f g : I → sProp M} : (bigSep S fun j => iprop(f j ∗ g j)) ⊢ iprop(bigSep S f ∗ bigSep S g) :=
  Entails.of_eq (bigSep_sep _ _ _)

theorem bigSep_Ico_cut (a b c : ℕ) (hab : a ≤ b) (hbc : b ≤ c) (f : ℕ → sProp M) :
    bigSep (Finset.Ico a c) f = iprop(bigSep (Finset.Ico a b) f ∗ bigSep (Finset.Ico b c) f) := by
  rw [← Finset.Ico_union_Ico_eq_Ico hab hbc]
  exact bigSep_union (Finset.Ico_disjoint_Ico_consecutive a b c)

theorem bigSep_Ico_shift (a n : ℕ) (f : ℕ → sProp M) : bigSep (Finset.Ico a (a + n)) f = bigSep (Finset.Ico 0 n) fun j => f (a + j) := by
  have h : Finset.Ico a (a + n) = (Finset.Ico 0 n).map (addLeftEmbedding a) := by
    ext x
    simp only [Finset.mem_map, Finset.mem_Ico, addLeftEmbedding_apply]
    exact ⟨fun h => ⟨x - a, by omega, by omega⟩, fun ⟨y, h, e⟩ => by omega⟩
  rw [h, bigSep_map]; rfl

theorem bigSep_fin_eq (n : ℕ) (f : Fin n → sProp M) (g : ℕ → sProp M) (h : ∀ j : Fin n, f j = g j.val) :
    bigSep Finset.univ f = bigSep (Finset.Ico 0 n) g := by
  have e : Finset.Ico 0 n = Finset.univ.map (Fin.valEmbedding (n := n)) := by
    ext x
    simp only [Finset.mem_map, Finset.mem_Ico, Finset.mem_univ, true_and, Fin.valEmbedding_apply]
    exact ⟨fun h => ⟨⟨x, h.2⟩, rfl⟩, fun ⟨y, e⟩ => ⟨Nat.zero_le _, e ▸ y.isLt⟩⟩
  rw [e, bigSep_map]
  exact bigSep_congr fun j _ => h j

end Stretch

/-! ## The transfer cells of a device -/

/-- Transfer semaphore `n`: the send semaphore, then the seven reduce-scatter ones, then the seven all-gather ones. -/
def dsem (n : ℕ) : SemLoc sig := if n = 0 then .dma sndS else if n < 8 then .dma (rsS (n - 1)) else .dma (agS (n - 8))
theorem csem_succ : ∀ k : Fin 15, csem k.succ = dsem k.val := by decide +kernel

theorem dcells (c : Dev nD) (Φ : GSem nD τ sig → sProp 𝕄) :
    (bigSep Finset.univ fun k : Fin 15 => Φ (cellAt (c, k.succ)))
      = iprop(Φ (sndC c) ∗ bigSep (Finset.Ico 0 7) (fun s => Φ (rsC c s)) ∗ bigSep (Finset.Ico 0 7) fun s => Φ (agC c s)) := by
  rw [bigSep_fin_eq 15 (fun k => Φ (cellAt (c, k.succ))) (fun n => Φ ((c : Thread nD τ), dsem n)) (fun k => congrArg (fun s => Φ ((c : Thread nD τ), s)) (csem_succ k)),
    bigSep_Ico_cut 0 1 15 (by omega) (by omega), bigSep_Ico_cut 1 8 15 (by omega) (by omega), bigSep_Ico_shift 1 7, bigSep_Ico_shift 8 7]
  refine congrArg₂ _ (bigSep_singleton (i := 0)) (congrArg₂ _ (bigSep_congr fun s hs => ?_) (bigSep_congr fun s hs => ?_))
  · have h := (Finset.mem_Ico.mp hs).2
    unfold dsem
    rw [if_neg (by omega), if_pos (by omega), show 1 + s - 1 = s by omega]
  · have h := (Finset.mem_Ico.mp hs).2
    unfold dsem
    rw [if_neg (by omega), if_neg (by omega), show 8 + s - 8 = s by omega]

/-! ## The duties' tokens of a device -/

/-- Duty `n`: the barrier's two, the send cell's fourteen rounds, the receive cells' one each. -/
def tk (n : ℕ) : SemLoc sig × ℕ × Bool :=
  if n < 2 then (.reg barS, 0, decide (n = 1)) else if n < 16 then (.dma sndS, n - 2, false)
  else if n < 23 then (.dma (rsS (n - 16)), 0, false) else (.dma (agS (n - 23)), 0, false)
theorem tk_injective : Function.Injective fun k : Fin 30 => tk k.val := by decide +kernel
def tokAt (p : Dev nD × Fin 30) : GSem nD τ sig × ℕ × Bool := (((p.1 : Thread nD τ), (tk p.2.val).1), (tk p.2.val).2)
theorem tokAt_injective : Function.Injective tokAt := fun p q h => by
  have h1 : (p.1 : Thread nD τ) = q.1 := congrArg (fun t : GSem nD τ sig × ℕ × Bool => t.1.1) h
  have h2 : tk p.2.val = tk q.2.val :=
    Prod.ext (congrArg (fun t : GSem nD τ sig × ℕ × Bool => t.1.2) h) (congrArg (fun t : GSem nD τ sig × ℕ × Bool => t.2) h)
  exact Prod.ext (by injection h1) (tk_injective h2)
def talkToks : Finset (GSem nD τ sig × ℕ × Bool) := Finset.univ.map ⟨tokAt, tokAt_injective⟩

/-- The tokens on a device's own cells. -/
def ownToks (c : Dev nD) : sProp 𝕄 :=
  iprop(dutyTok ER (barC c) 0 false ∗ dutyTok ER (barC c) 0 true ∗ toks (F := F) c 0
    ∗ bigSep (Finset.Ico 0 7) (fun s => dutyTok ER (rsC c s) 0 false) ∗ bigSep (Finset.Ico 0 7) fun s => dutyTok ER (agC c s) 0 false)

theorem toks_eq : bigSep talkToks (fun x => (dutyTok ER x.1 x.2.1 x.2.2 : sProp 𝕄)) = bigSep Finset.univ fun c : Dev nD => ownToks c := by
  unfold talkToks; rw [bigSep_map, bigSep_univ_prod]
  refine bigSep_congr fun c _ => ?_
  show (bigSep Finset.univ fun k : Fin 30 => (dutyTok ER ((c : Thread nD τ), (tk k.val).1) (tk k.val).2.1 (tk k.val).2.2 : sProp 𝕄)) = _
  rw [bigSep_fin_eq 30 _ (fun n => (dutyTok ER ((c : Thread nD τ), (tk n).1) (tk n).2.1 (tk n).2.2 : sProp 𝕄)) (fun _ => rfl),
    bigSep_Ico_cut 0 1 30 (by omega) (by omega), bigSep_Ico_cut 1 2 30 (by omega) (by omega), bigSep_Ico_cut 2 16 30 (by omega) (by omega),
    bigSep_Ico_cut 16 23 30 (by omega) (by omega), bigSep_Ico_shift 2 14, bigSep_Ico_shift 16 7, bigSep_Ico_shift 23 7]
  unfold ownToks toks
  refine congrArg₂ _ (bigSep_singleton (i := 0)) (congrArg₂ _ (bigSep_singleton (i := 1)) (congrArg₂ _ (bigSep_congr fun s hs => ?_)
    (congrArg₂ _ (bigSep_congr fun s hs => ?_) (bigSep_congr fun s hs => ?_))))
  · have h := (Finset.mem_Ico.mp hs).2
    have e : tk (2 + s) = (.dma sndS, s, false) := by
      unfold tk
      rw [if_neg (by omega), if_pos (by omega), show 2 + s - 2 = s by omega]
    rw [e]
  · have h := (Finset.mem_Ico.mp hs).2
    have e : tk (16 + s) = (.dma (rsS s), 0, false) := by
      unfold tk
      rw [if_neg (by omega), if_neg (by omega), if_pos (by omega), show 16 + s - 16 = s by omega]
    rw [e]
  · have h := (Finset.mem_Ico.mp hs).2
    have e : tk (23 + s) = (.dma (agS s), 0, false) := by
      unfold tk
      rw [if_neg (by omega), if_neg (by omega), if_neg (by omega), show 23 + s - 23 = s by omega]
    rw [e]

/-- The tokens a device pays with: those on the neighbours' cells, and on its own send cell. -/
def payToks (c : Dev nD) : sProp 𝕄 :=
  iprop(dutyTok ER (barC (up c 1)) 0 false ∗ dutyTok ER (barC (dn c 1)) 0 true ∗ toks (F := F) c 0
    ∗ bigSep (Finset.Ico 0 7) (fun s => dutyTok ER (rsC (up c 1) s) 0 false) ∗ bigSep (Finset.Ico 0 7) fun s => dutyTok ER (agC (up c 1) s) 0 false)

theorem toks_around : (bigSep Finset.univ fun c : Dev nD => (ownToks c : sProp 𝕄)) ⊢ bigSep Finset.univ fun c : Dev nD => payToks c := by
  unfold ownToks payToks
  rw [bigSep_sep', bigSep_sep', bigSep_sep', bigSep_sep', bigSep_sep', bigSep_sep', bigSep_sep', bigSep_sep',
    bigSep_univ_equiv turn (fun c : Dev nD => (dutyTok ER (barC c) 0 false : sProp 𝕄)),
    bigSep_univ_equiv turn.symm (fun c : Dev nD => (dutyTok ER (barC c) 0 true : sProp 𝕄)),
    bigSep_univ_equiv turn (fun c : Dev nD => (bigSep (Finset.Ico 0 7) (fun s => dutyTok ER (rsC c s) 0 false) : sProp 𝕄)),
    bigSep_univ_equiv turn (fun c : Dev nD => (bigSep (Finset.Ico 0 7) (fun s => dutyTok ER (agC c s) 0 false) : sProp 𝕄))]
  exact BI.Entails.refl _

/-! ## The call's entry: every transfer cell opened -/

variable (P : Dev nD → Arr F)

/-- The credits a device waits with. -/
def creds (c : Dev nD) : sProp 𝕄 :=
  iprop(cred (tallyAt (barC c) () 2) ∗ bigSep (Finset.Ico 0 7) (fun s => cred (tallyAt (rsC c s) () N))
    ∗ bigSep (Finset.Ico 0 7) fun s => cred (tallyAt (agC c s) () N))

/-- What a device brings to the ring from the launch: the cells' invariants, its place at its barrier cell, the right
    to open its transfer cells, the tokens it pays with, its credits. -/
def Tk (c : Dev nD) : sProp 𝕄 :=
  iprop(∃ K : GSem nD τ sig → ℕ, bigSep (barCells ∪ dmaCells) (fun g => cellInv ER (Rd P) (K g) g)
    ∗ (reached ER (barC (up c 1)) 0 ∗ reached ER (barC (dn c 1)) 0) ∗ atPos ER (barC c) 0 ∅ 0
    ∗ (bigSep Finset.univ fun k : Fin 15 => openTok ER (cellAt (c, k.succ))) ∗ payToks (F := F) c ∗ creds (F := F) c)

/-- The cells opened: what the ring's body is run with beside the buffers. -/
def Xk (c : Dev nD) : sProp 𝕄 :=
  iprop(∃ K : GSem nD τ sig → ℕ, Ctx P K ∗ barIn (F := F) c
    ∗ (bigSep (Finset.Ico 0 7) (fun s => reached ER (rsC c s) 0) ∗ bigSep (Finset.Ico 0 7) fun s => reached ER (agC c s) 0)
    ∗ sndAt (F := F) c 0 ∗ rsToks (F := F) c ∗ agToks (F := F) c)

def osem1 (k : Fin 15) : SemLoc sig := csem k.succ

theorem opened (c : Dev nD) (K : GSem nD τ sig → ℕ) :
    iprop(bigSep (barCells ∪ dmaCells) (fun g => cellInv ER (Rd P) (K g) g) ∗ (bigSep Finset.univ fun k : Fin 15 => openTok ER (cellAt (c, k.succ)))
        ∗ bigSep Finset.univ fun k : Fin 15 => (semVal (cellAt (c, k.succ)) 0 : sProp 𝕄))
      ⊢ (|={Set.univ}=> bigSep Finset.univ fun k : Fin 15 => iprop(atPos ER (cellAt (c, k.succ)) 0 ∅ 0 ∗ reached ER (cellAt (c, k.succ)) 0) : sProp 𝕄) := by
  have hmem : ∀ k : Fin 15, cellAt (c, k.succ) ∈ barCells ∪ dmaCells := fun k =>
    Finset.mem_union_right _ (Finset.mem_map.mpr ⟨(c, k), Finset.mem_univ _, rfl⟩)
  have hinv : bigSep (barCells ∪ dmaCells) (fun g => (cellInv ER (Rd P) (K g) g : sProp 𝕄))
      ⊢ bigSep Finset.univ fun k : Fin 15 => cellInv ER (Rd P) (K (cellAt (c, k.succ))) (cellAt (c, k.succ)) :=
    bigSep_intro_persistent fun k _ => bigSep_elim (hmem k)
  iintro ⟨#HI, Ho, Hs⟩
  iapply (cells_open ER (Rd P) Finset.univ (fun k : Fin 15 => cellAt (c, k.succ)) (fun k => K (cellAt (c, k.succ))) (fun _ _ => Set.mem_univ _))
  isplitl [Ho]
  · iapply bigSep_both
    isplitr
    · iapply hinv; iexact HI
    iexact Ho
  iexact Hs

theorem hopen1 (c : Dev nD) : iprop(Tk P c ∗ Pipeline.ownSems0 osem1 c ∗ levAts L lv) ⊢ (|={Set.univ}=> Xk P c : sProp 𝕄) := by
  have e1 : (Pipeline.ownSems0 osem1 c : sProp 𝕄) = bigSep Finset.univ fun k : Fin 15 => semVal (cellAt (c, k.succ)) 0 := rfl
  rw [e1]
  unfold Tk Xk
  iintro ⟨⟨%K, #HI, #HrB, HatB, Ho, Ht, Hc⟩, Hs, #Hlev⟩
  imod (opened P c K) $$ [Ho Hs] with H
  · isplitr; · iexact HI
    isplitl [Ho] <;> iassumption
  ihave H' := (Entails.of_eq (dcells c fun g => iprop(atPos ER g 0 ∅ 0 ∗ reached ER g 0))) $$ H
  icases H' with ⟨⟨HatS, #HrS⟩, Hrs, Hag⟩
  ihave H1 := bigSep_apart $$ Hrs; icases H1 with ⟨HatR, HrR⟩
  ihave H2 := bigSep_apart $$ Hag; icases H2 with ⟨HatA, HrA⟩
  unfold payToks creds
  icases Ht with ⟨HtU, HtD, HtS, HtR, HtA⟩
  icases Hc with ⟨HcB, HcR, HcA⟩
  imodintro
  iexists K
  isplitr
  · unfold Ctx; isplitr; · iexact HI
    iexact Hlev
  isplitl [HtU HtD HatB HcB]
  · unfold barIn
    isplitl [HtU HtD]; · isplitl [HtU] <;> iassumption
    isplitr; · iexact HrB
    isplitl [HatB] <;> iassumption
  isplitl [HrR HrA]; · isplitl [HrR] <;> iassumption
  isplitl [HtS HatS]
  · unfold sndAt
    isplitl [HtS]; · iexact HtS
    isplitl [HatS]; · iexact HatS
    iexact HrS
  isplitl [HtR HcR HatR]
  · unfold rsToks rsIn
    iapply bigSep_both; isplitl [HtR]; · iexact HtR
    iapply bigSep_both; isplitl [HcR] <;> iassumption
  unfold agToks agIn
  iapply bigSep_both; isplitl [HtA]; · iexact HtA
  iapply bigSep_both; isplitl [HcA] <;> iassumption

end Cert.KernelIdeal.Talk

end
-- ==== Proof.RingData.lean ====
/-
  The ring call as a one-point pipeline: the staged addend goes in, the staged sum comes out, the landing slots are lent
  to the body from the buffers no window stages.
-/
module

public import proofs.«01_k».proof.Proof.RingOpen
public import proofs.«01_k».proof.Proof.AttnData

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

/-- The addend a device stages, from what its buffers hold. -/
def addend (V : Dev nD → Valuation τ sig (Elt F)) (c : Dev nD) : Arr F :=
  ((cfg1.win 0).blk t1_0).view.read (Elt F) (V c (Pipeline.arrRef spec1 0))

/-- What the body leaves beside the staged blocks: every cell closed. -/
def closed (c : Dev nD) : sProp 𝕄 :=
  iprop(semVal (barC c) 0 ∗ semVal (sndC c) 0 ∗ bigSep (Finset.Ico 0 7) (fun j => semVal (rsC c j) 0) ∗ bigSep (Finset.Ico 0 7) fun j => semVal (agC c j) 0)

/-- The ring call's data: it owes its ring debts before its one point, nothing after. -/
def dat1 (V : Dev nD → Valuation τ sig (Elt F)) (c : Dev nD) : Pipeline.Dat τ (Elt F) Unit ℕ UU ℕ cfg1 c where
  A w := V c (Pipeline.arrRef spec1 w)
  after w _ := match w with
    | ⟨0, _⟩ => addend V c
    | ⟨1, _⟩ => total (addend V)
    | ⟨_ + 2, h⟩ => absurd h (Nat.not_lt.2 (Nat.le_add_left _ _))
  Φ t := if t.val = 0 then iprop(Xk (addend V) c ∗ Pipeline.scopedRest spec1 c ∗ ∃ r, prngReg c r)
    else iprop(closed (F := F) c ∗ Pipeline.scopedRest spec1 c ∗ ∃ r, prngReg c r)
  q _ := fullShare
  owed t := if t.val = 0 then O₀ c else 0

variable (V : Dev nD → Valuation τ sig (Elt F)) (c : Dev nD)

theorem owed1_zero : (dat1 V c).owed 0 = O₀ c := by
  show (if ((0 : Fin (cfg1.N + 1)).val = 0) then O₀ c else 0) = O₀ c; exact if_pos rfl
theorem owed1_first : (dat1 V c).owed t1_0.castSucc = O₀ c := by
  show (if ((t1_0.castSucc : Fin (cfg1.N + 1)).val = 0) then O₀ c else 0) = O₀ c; exact if_pos rfl
theorem owed1_last : (dat1 V c).owed (Fin.last cfg1.N) = 0 := by
  show (if ((Fin.last cfg1.N).val = 0) then O₀ c else 0) = 0
  exact if_neg (by rw [Fin.val_last, show cfg1.N = 1 from N_1]; decide)

theorem owesAt_take {cfg : Pipeline.Cfg sig Λ₀} {d : Dev nD} (dat : Dat τ (Elt F) Unit ℕ UU ℕ cfg d) (t : Fin (cfg.N + 1))
    (O : CellTallies nD τ sig Unit) (h : dat.owed t = O) : (dat.owesAt () t : sProp 𝕄) ⊢ owing d O := by
  unfold Dat.owesAt Pipeline.owesWithin owing; rw [h]
  iintro ⟨%W, -, HO⟩; iexists W; iexact HO
theorem owesAt_give {cfg : Pipeline.Cfg sig Λ₀} {d : Dev nD} (dat : Dat τ (Elt F) Unit ℕ UU ℕ cfg d) (t : Fin (cfg.N + 1))
    (O : CellTallies nD τ sig Unit) (h : dat.owed t = O) (hr : dat.recorded t = Set.univ) : (owing d O : sProp 𝕄) ⊢ dat.owesAt () t := by
  unfold Dat.owesAt Pipeline.owesWithin Dat.bound owing; rw [h, hr]
  iintro ⟨%W, HO⟩; iexists W
  isplitr; · ipureintro; exact fun _ _ => .inl trivial
  iexact HO

theorem before1_0 (d) : (dat1 V c).before 0 t1_0 d = addend V c :=
  ((dat1 V c).before_in_eq_fetched 0 rfl (fun _ => rfl) (fun _ _ _ => rfl)
    (fun t => by obtain rfl := fin_N1 t; rfl) t1_0 d).trans (by
    unfold Dat.fetched Dat.blockOf; dsimp only [dat1]; rfl)

/-- A buffer whole, at contents not chosen. -/
def anyAt (r : Ref sig .tc) : sProp 𝕄 := iprop(∃ f : Buf (Elt F) ((c : Thread nD τ).loc r), (c : Thread nD τ).loc r ↦{fullShare} f)

/-- The attention call's staging buffers. -/
def stg0 : sProp 𝕄 :=
  iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ anyAt (F := F) c cc0_stg4_0 ∗ anyAt (F := F) c cc0_stg4_1 ∗ anyAt (F := F) c cc0_stg5_0 ∗ anyAt (F := F) c cc0_stg5_1)

/-- The buffers no window stages: the landing slots, and the attention call's staging buffers. -/
theorem rest1 : (Pipeline.scopedRest spec1 c : sProp 𝕄) ⊣⊢ iprop((∃ f, wW (F := F) c f) ∗ stg0 (F := F) c) := by
  rw [scopedRest1_eq]
  unfold stg0 anyAt
  constructor
  · iintro ⟨H0, H1, H2, H3, H4, H5, H6, H7, H8, H9, H10, H11, H⟩
    isplitl [H]; · iexact H
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  · iintro ⟨H, H0, H1, H2, H3, H4, H5, H6, H7, H8, H9, H10, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H

/-- The ring body's obligation. -/
theorem body1 : BodyObligation (dat1 V c) defs₀ 𝒱₀ () Set.univ := fun t => by
  obtain rfl := fin_N1 t
  have hR := rest1 (F := F) c
  rw [bigSep_W1, bigSep_W1]
  simp only [before1_0]
  rw [show (dat1 V c).Φ t1_0.castSucc = iprop(Xk (addend V) c ∗ Pipeline.scopedRest spec1 c ∗ ∃ r, prngReg c r) from rfl,
    show (dat1 V c).Φ t1_0.succ = iprop(closed (F := F) c ∗ Pipeline.scopedRest spec1 c ∗ ∃ r, prngReg c r) from rfl]
  unfold Xk
  iintro ⟨⟨⟨%K, #HC, HB, ⟨HrR, HrA⟩, HS, HR, HA⟩, Hsc, Hp⟩, HO, ⟨%d0, H0⟩, ⟨%d1, H1⟩⟩
  ihave Hsc' := hR.1 $$ Hsc
  icases Hsc' with ⟨⟨%f, Hw⟩, Hrest⟩
  ihave Hsl := (slots_split c f) $$ Hw
  ihave HO' := (owesAt_take (dat1 V c) _ (O₀ c) (owed1_first V c)) $$ HO
  ihave H0' := (Entails.of_eq (show (owns (c : Thread nD τ) (st1_0 t1_0) fullShare (addend V c) : sProp 𝕄) = pW c (addend V c) from owns_whole _ _ _ _)) $$ H0
  ihave H1' := (show (owns (c : Thread nD τ) (st1_1 t1_0) fullShare ((dat1 V c).before 1 t1_0 d1) : sProp 𝕄) ⊢ aW c ((dat1 V c).before 1 t1_0 d1) from
    Entails.of_eq (owns_whole _ _ _ _)) $$ H1
  iapply (ring_run (P := addend V) (c := c) (K := K)) $$ [HB HrR HrA HS HR HA HO' H0' H1' Hsl]
  · isplitr; · iexact HC
    unfold pre
    isplitl [HO']; · iexact HO'
    isplitl [HB]; · iexact HB
    isplitl [HrR HrA Hsl]
    · unfold give
      iapply bigSep_both; isplitl [Hsl]; · iexact Hsl
      iapply bigSep_both; isplitl [HrR] <;> iassumption
    isplitl [HS]; · iexact HS
    isplitl [HR]; · iexact HR
    isplitl [HA]; · iexact HA
    isplitl [H0']; · iexact H0'
    iexists _; iexact H1'
  unfold post
  iintro ⟨HO, Hcl, ⟨%f', Hw⟩, H0, H1⟩
  isplitl [Hcl Hw Hrest Hp]
  · isplitl [Hcl]; · unfold closed; iexact Hcl
    isplitl [Hw Hrest]
    · iapply hR.2
      isplitl [Hw]; · iexists f'; iexact Hw
      iexact Hrest
    iexact Hp
  isplitl [HO]
  · iapply (owesAt_give (dat1 V c) t1_0.succ 0 (owed1_last V c) rfl); iexact HO
  isplitl [H0]
  · iapply (show (pW c (addend V c) : sProp 𝕄) ⊢ owns (c : Thread nD τ) (st1_0 t1_0) fullShare (addend V c) from Entails.of_eq (owns_whole _ _ _ _).symm); iexact H0
  iapply (show (aW c (total (addend V)) : sProp 𝕄) ⊢ owns (c : Thread nD τ) (st1_1 t1_0) fullShare (total (addend V)) from Entails.of_eq (owns_whole _ _ _ _).symm); iexact H1

/-! ## The call's entry and exit -/

theorem hin1 : iprop(Pipeline.scopedRest spec1 c ∗ (∃ r, prngReg c r) ∗ Xk (addend V) c) ⊢ (dat1 V c).Φ 0 := by
  rw [show (dat1 V c).Φ 0 = iprop(Xk (addend V) c ∗ Pipeline.scopedRest spec1 c ∗ ∃ r, prngReg c r) from rfl]
  iintro ⟨Hs, Hp, Hx⟩
  isplitl [Hx]; · iexact Hx
  isplitl [Hs] <;> iassumption

theorem hout1 : (dat1 V c).Φ (Fin.last cfg1.N)
    ⊢ iprop(Pipeline.scopedRest spec1 c ∗ (∃ r, prngReg c r) ∗ Pipeline.ownSems0 osem1 c ∗ semVal (barC c) 0) := by
  have e1 : (Pipeline.ownSems0 osem1 c : sProp 𝕄) = bigSep Finset.univ fun k : Fin 15 => semVal (cellAt (c, k.succ)) 0 := rfl
  rw [show (dat1 V c).Φ (Fin.last cfg1.N) = iprop(closed (F := F) c ∗ Pipeline.scopedRest spec1 c ∗ ∃ r, prngReg c r) from rfl, e1,
    dcells c fun g => semVal g 0]
  unfold closed
  iintro ⟨⟨Hb, Hown⟩, Hs, Hp⟩
  isplitl [Hs]; · iexact Hs
  isplitl [Hp]; · iexact Hp
  isplitl [Hown] <;> iassumption

end Cert.KernelIdeal.Talk

end
-- ==== Proof.RingLaunch.lean ====
/-
  The launch of the ring's protocol: the credits every device starts with are what the other devices owe its cells, and
  the tokens and positions made at launch are dealt to the devices.
-/
module

public import proofs.«01_k».proof.Proof.RingOpen
public import Idealize.ShloMosaic.Lib.Pipeline.Regions

@[expose] public section

noncomputable section

namespace Cert.KernelIdeal.Talk

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## What is owed to a device's cells -/

theorem tally_at (g g' : GSem nD τ sig) (n : ℕ) : tallyAt g' () n g () = if g = g' then n else 0 := by
  rw [tallyAt_apply]
  by_cases h : g = g'
  · rw [if_pos ⟨h, rfl⟩, if_pos h]
  · rw [if_neg (fun h' => h h'.1), if_neg h]

theorem cell_eq {c d : Dev nD} {s s' : SemLoc sig} (h : (((c : Thread nD τ), s) : GSem nD τ sig) = ((d : Thread nD τ), s')) : c = d ∧ s = s' := by
  have h1 : (c : Thread nD τ) = d := congrArg Prod.fst h
  exact ⟨by injection h1, congrArg Prod.snd h⟩
theorem rsS_inj {s j : ℕ} (hs : s < 7) (hj : j < 7) (h : (SemLoc.dma (rsS s) : SemLoc sig) = .dma (rsS j)) : s = j := by
  have h1 : rsS s = rsS j := by injection h
  have h2 : 15 + s % 7 = 15 + j % 7 := congrArg Fin.val h1
  omega
theorem agS_inj {s j : ℕ} (hs : s < 7) (hj : j < 7) (h : (SemLoc.dma (agS s) : SemLoc sig) = .dma (agS j)) : s = j := by
  have h1 : agS s = agS j := by injection h
  have h2 : 22 + s % 7 = 22 + j % 7 := congrArg Fin.val h1
  omega
theorem rs_ne_ag (s j : ℕ) : (SemLoc.dma (rsS s) : SemLoc sig) ≠ .dma (agS j) := fun h => by
  have h1 : rsS s = agS j := by injection h
  have h2 : 15 + s % 7 = 22 + j % 7 := congrArg Fin.val h1
  omega

theorem rs_ne_bar (c d : Dev nD) (s : ℕ) : rsC c s ≠ barC d := fun h => nomatch (cell_eq h).2
theorem ag_ne_bar (c d : Dev nD) (s : ℕ) : agC c s ≠ barC d := fun h => nomatch (cell_eq h).2

theorem up_eq (c d : Dev nD) : c = up d 1 ↔ d = dn c 1 := ⟨fun h => by rw [h, dn_up d 1 (by decide)], fun h => by rw [h, up_dn c 1 (by decide)]⟩
theorem dn_eq (c d : Dev nD) : c = dn d 1 ↔ d = up c 1 := ⟨fun h => by rw [h, up_dn d 1 (by decide)], fun h => by rw [h, dn_up c 1 (by decide)]⟩

theorem O₀_at (d : Dev nD) (g : GSem nD τ sig) : O₀ d g () = (∑ j ∈ Finset.Ico 0 7, if g = rsC (up d 1) j then N else 0)
    + (∑ j ∈ Finset.Ico 0 7, if g = agC (up d 1) j then N else 0) + (if g = barC (up d 1) then 1 else 0) + (if g = barC (dn d 1) then 1 else 0) := by
  unfold O₀ oRS oAG
  simp only [Pi.add_apply, Finsupp.add_apply, Finset.sum_apply, Finsupp.finset_sum_apply, tally_at]

theorem owed_bar (d c : Dev nD) : O₀ d (barC c) () = (if d = dn c 1 then 1 else 0) + (if d = up c 1 then 1 else 0) := by
  rw [O₀_at, Finset.sum_eq_zero fun j _ => if_neg (rs_ne_bar _ _ _).symm, Finset.sum_eq_zero fun j _ => if_neg (ag_ne_bar _ _ _).symm,
    Nat.zero_add, Nat.zero_add]
  refine congrArg₂ _ (if_congr ⟨fun h => (up_eq c d).mp (cell_eq h).1, fun h => by rw [(up_eq c d).mpr h]⟩ rfl rfl)
    (if_congr ⟨fun h => (dn_eq c d).mp (cell_eq h).1, fun h => by rw [(dn_eq c d).mpr h]⟩ rfl rfl)
theorem owed_rs (d c : Dev nD) (s : ℕ) (hs : s < 7) : O₀ d (rsC c s) () = if d = dn c 1 then N else 0 := by
  rw [O₀_at, Finset.sum_eq_single_of_mem s (Finset.mem_Ico.mpr ⟨Nat.zero_le _, hs⟩) fun j hj hne =>
      if_neg fun h => hne (rsS_inj hs (Finset.mem_Ico.mp hj).2 (cell_eq h).2).symm,
    Finset.sum_eq_zero fun j _ => if_neg fun h => rs_ne_ag _ _ (cell_eq h).2, if_neg (rs_ne_bar _ _ _), if_neg (rs_ne_bar _ _ _)]
  exact if_congr ⟨fun h => (up_eq c d).mp (cell_eq h).1, fun h => by rw [(up_eq c d).mpr h]⟩ rfl rfl
theorem owed_ag (d c : Dev nD) (s : ℕ) (hs : s < 7) : O₀ d (agC c s) () = if d = dn c 1 then N else 0 := by
  rw [O₀_at, Finset.sum_eq_single_of_mem (s := Finset.Ico 0 7) (f := fun j => if agC c s = agC (up d 1) j then N else 0) s
      (Finset.mem_Ico.mpr ⟨Nat.zero_le _, hs⟩) fun j hj hne => if_neg fun h => hne (agS_inj hs (Finset.mem_Ico.mp hj).2 (cell_eq h).2).symm,
    Finset.sum_eq_zero fun j _ => if_neg fun h => rs_ne_ag _ _ (cell_eq h).2.symm, if_neg (ag_ne_bar _ _ _), if_neg (ag_ne_bar _ _ _),
    Nat.zero_add]
  exact if_congr ⟨fun h => (up_eq c d).mp (cell_eq h).1, fun h => by rw [(up_eq c d).mpr h]⟩ rfl rfl

/-- The credit on a cell at launch, from what the devices owe it together. -/
theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem sum_one (c : Dev nD) (n : ℕ) : (∑ d : Dev nD, if d = c then n else 0) = n := by
  rw [Finset.sum_ite_eq' Finset.univ c fun _ => n, if_pos (Finset.mem_univ _)]
theorem launch_bar (c : Dev nD) : tallyOn (barC c) (launchCredit (Pipeline.owing O₀) 0 (barC c)) = (tallyAt (barC c) () 2 : CellTallies nD τ sig Unit) :=
  launch_at _ _ (by rw [Finset.sum_congr rfl fun d _ => owed_bar d c, Finset.sum_add_distrib, sum_one, sum_one])
theorem launch_rs (c : Dev nD) (s : ℕ) (hs : s < 7) :
    tallyOn (rsC c s) (launchCredit (Pipeline.owing O₀) 0 (rsC c s)) = (tallyAt (rsC c s) () N : CellTallies nD τ sig Unit) :=
  launch_at _ _ (by rw [Finset.sum_congr rfl fun d _ => owed_rs d c s hs, sum_one])
theorem launch_ag (c : Dev nD) (s : ℕ) (hs : s < 7) :
    tallyOn (agC c s) (launchCredit (Pipeline.owing O₀) 0 (agC c s)) = (tallyAt (agC c s) () N : CellTallies nD τ sig Unit) :=
  launch_at _ _ (by rw [Finset.sum_congr rfl fun d _ => owed_ag d c s hs, sum_one])

theorem creds_intro (c : Dev nD) : (Pipeline.launchCred O₀ c : sProp 𝕄) ⊢ creds (F := F) c := by
  let Φ : GSem nD τ sig → sProp 𝕄 := fun g => cred (tallyOn g (launchCredit (Pipeline.owing O₀) 0 g))
  have hsub : (Pipeline.launchCred O₀ c : sProp 𝕄) ⊢ bigSep (Finset.univ.map ⟨csem, csem_injective⟩) fun sm => Φ ((c : Thread nD τ), sm) := by
    unfold Pipeline.launchCred
    exact bigSep_subset (Finset.subset_univ _)
  refine hsub.trans ?_
  rw [bigSep_map]
  have hfin : (bigSep Finset.univ fun k : Fin 16 => Φ (cellAt (c, k)))
      = iprop(Φ (barC c) ∗ bigSep Finset.univ fun k : Fin 15 => Φ (cellAt (c, k.succ))) := by
    rw [show (Finset.univ : Finset (Fin 16)) = insert 0 (Finset.univ.map ⟨Fin.succ, Fin.succ_injective 15⟩) from by decide,
      bigSep_insert (by decide), bigSep_map]
    rfl
  refine (Entails.of_eq (hfin.trans (congrArg (fun X => iprop(Φ (barC c) ∗ X)) (dcells c Φ)))).trans ?_
  unfold creds
  refine BI.sep_mono (Entails.of_eq (congrArg cred (launch_bar c))) ?_
  refine (show iprop(Φ (sndC c) ∗ bigSep (Finset.Ico 0 7) (fun s => Φ (rsC c s)) ∗ bigSep (Finset.Ico 0 7) fun s => Φ (agC c s))
    ⊢ iprop(bigSep (Finset.Ico 0 7) (fun s => Φ (rsC c s)) ∗ bigSep (Finset.Ico 0 7) fun s => Φ (agC c s)) from by iintro ⟨-, H⟩; iexact H).trans ?_
  exact BI.sep_mono (bigSep_mono fun s hs => Entails.of_eq (congrArg cred (launch_rs c s (Finset.mem_Ico.mp hs).2)))
    (bigSep_mono fun s hs => Entails.of_eq (congrArg cred (launch_ag c s (Finset.mem_Ico.mp hs).2)))

/-! ## Dealing what the launch makes -/

variable (P : Dev nD → Arr F)

/-- All the invariants under one map of names, and round 0 of every barrier cell reached. -/
def records (κ : GSem nD τ sig → ℕ) : sProp 𝕄 :=
  iprop((bigSep (barCells ∪ dmaCells) fun g => cellInv ER (Rd P) (κ g) g) ∗ bigSep barCells fun g => reached ER g 0)

instance records_persistent (κ : GSem nD τ sig → ℕ) : BI.Persistent (records P κ) := by unfold records; infer_instance

/-- What is dealt to device `c`. -/
def dealt (c : Dev nD) : sProp 𝕄 :=
  iprop(atPos ER (barC c) 0 ∅ 0 ∗ (bigSep Finset.univ fun k : Fin 15 => openTok ER (cellAt (c, k.succ))) ∗ payToks (F := F) c)

theorem reached_at (c : Dev nD) : (bigSep barCells fun g => (reached ER g 0 : sProp 𝕄)) ⊢ reached ER (barC c) 0 := bigSep_elim (barC_mem c)

theorem Tk_intro (κ : GSem nD τ sig → ℕ) (c : Dev nD) : iprop(records P κ ∗ (dealt (F := F) c ∗ creds (F := F) c)) ⊢ Tk P c := by
  unfold records dealt Tk
  iintro ⟨⟨#HI, #HR⟩, ⟨Hat, Ho, Ht⟩, Hc⟩
  iexists κ
  isplitr; · iexact HI
  isplitr
  · isplitr
    · iapply (reached_at (F := F) (up c 1)); iexact HR
    iapply (reached_at (F := F) (dn c 1)); iexact HR
  isplitl [Hat]; · iexact Hat
  isplitl [Ho]; · iexact Ho
  isplitl [Ht] <;> iassumption

/-- The protocol started: from every barrier counter and the launch's ghost state, every device's share beside `B`. -/
theorem start (B T : Dev nD → sProp 𝕄) (hT : ∀ c, iprop(Tk P c ∗ B c) ⊢ T c) :
    iprop((bigSep Finset.univ fun c : Dev nD => (semVal (barC c) 0 : sProp 𝕄)) ∗ BI.own (ER (launchOf barCells dmaCells talkToks))
        ∗ bigSep Finset.univ fun c : Dev nD => iprop(creds (F := F) c ∗ B c))
      ⊢ (|={Set.univ}=> bigSep Finset.univ T : sProp 𝕄) := by
  have hv : bigSep Finset.univ (fun c : Dev nD => (semVal (barC c) 0 : sProp 𝕄)) ⊢ bigSep barCells fun g => (semVal g 0 : sProp 𝕄) :=
    Entails.of_eq (by unfold barCells; rw [bigSep_map]; rfl)
  have hat : bigSep barCells (fun g => (atPos ER g 0 ∅ 0 : sProp 𝕄)) ⊢ bigSep Finset.univ fun c : Dev nD => (atPos ER (barC c) 0 ∅ 0 : sProp 𝕄) :=
    Entails.of_eq (by unfold barCells; rw [bigSep_map]; rfl)
  have hopen : bigSep dmaCells (fun g => (openTok ER g : sProp 𝕄))
      ⊢ bigSep Finset.univ fun c : Dev nD => bigSep Finset.univ fun k : Fin 15 => openTok ER (cellAt (c, k.succ)) :=
    Entails.of_eq (by unfold dmaCells; rw [bigSep_map, bigSep_univ_prod]; rfl)
  iintro ⟨Hv, Hu, HB⟩
  imod (Rounds.fund_launch ER (Rd P) cells_disjoint (fun g _ h => h) talkToks) $$ [Hv Hu] with ⟨%κ, -, #Hinv, #Hr, Hat, Hopen, Htok⟩
  · isplitl [Hv]
    · iapply hv $$ Hv
    · iexact Hu
  imodintro
  iapply (bigSep_with_persistent (R := records P κ) (Φ := fun c => iprop(dealt (F := F) c ∗ (creds (F := F) c ∗ B c))) fun c _ => by
    refine BIBase.Entails.trans ?_ (hT c)
    iintro ⟨#HR, Hd, Hc, HB⟩
    isplitl [Hd Hc]
    · iapply (Tk_intro P κ c)
      isplitr; · iexact HR
      isplitl [Hd] <;> iassumption
    iexact HB)
  isplitr
  · unfold records
    isplitr; · iexact Hinv
    iexact Hr
  iapply bigSep_both
  isplitr [HB]
  · unfold dealt
    iapply bigSep_both; isplitl [Hat]; · iapply hat $$ Hat
    iapply bigSep_both; isplitl [Hopen]; · iapply hopen $$ Hopen
    iapply (toks_around (F := F))
    iapply (Entails.of_eq (toks_eq (F := F))) $$ Htok
  · iexact HB

end Cert.KernelIdeal.Talk

end
-- ==== Proof.Run.lean ====
/-
  The run: @main's segments put together — the host stretch that cuts out a device's heads, the attention call, the ring and
  the last broadcast — and the launch of them on the mesh.
-/
module

public import proofs.«01_k».proof.Proof.AttnData
public import proofs.«01_k».proof.Proof.RingData
public import proofs.«01_k».proof.Proof.RingLaunch
public import proofs.«01_k».proof.Proof.Gen.KernelIdeal.Regions
public import Idealize.ShloMosaic.Lib.Pipeline.RegionTalk
public import Idealize.ShloMosaic.Lib.Pipeline.RegionArraysS

@[expose] public section

noncomputable section

namespace Cert.KernelIdeal.Talk

open Cert.KernelIdeal Cert.KernelIdeal.Gen

open Idealize.ShloMosaic Idealize.ShloMosaic.Pipeline
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (m : (ℓ : Loc nD τ sig) → Buf (Elt F) ℓ) (ρ : Dev nD → PrngReg)

local notation "𝕄" => MT nD τ sig Unit (Elt F) ℕ UU ℕ

/-! ## The buffers after each item -/

/-- Device `c`'s buffers after the attention call. -/
def W2 (c : Dev nD) : Valuation τ sig (Elt F) := afterRegion (dat0 (V1 m c) c) (V1 m c)
/-- Device `c`'s buffers after the ring. -/
def W3 (c : Dev nD) : Valuation τ sig (Elt F) := afterRegion (dat1 (W2 m) c) (W2 m c)
/-- Device `c`'s buffers at the end. -/
def W4 (c : Dev nD) : Valuation τ sig (Elt F) := StableHlo.after hostOps2 (W3 m c)

def pdats : (p : Fin 2) → (c : Dev nD) → Dat τ (Elt F) Unit ℕ UU ℕ (Pipeline.pin (pcfgs (F := F)) adm p) c
  | 0 => fun c => dat0 (V1 m c) c
  | 1 => fun c => dat1 (W2 m) c

/-- What a device's ring starts from, with the attention calls' results as its addends. -/
abbrev talk (c : Dev nD) : sProp 𝕄 := Tk (addend (W2 m)) c

theorem share_full {p : Fin 2} {c : Dev nD} (w) (hq : (pdats m p c).q w = fullShare) : (pdats m p c).share w = fullShare := by
  unfold Dat.share; split
  · rfl
  · exact hq

theorem stage_low0 : ∀ (w : Fin cfg0.W) (s : Fin (cfg0.win w).nbuf), ((cfg0.win w).sem s).val < 14 := by decide
theorem stage_low1 : ∀ (w : Fin cfg1.W) (s : Fin (cfg1.win w).nbuf), ((cfg1.win w).sem s).val < 14 := by decide

theorem lv_low (c : Dev nD) (s : DmaSem sig) (h : s.val < 14) : lv ((c : Thread nD τ), .dma s) () ≤ 0 := by
  show (if s.val < 14 then 0 else s.val - 12) ≤ 0; rw [if_pos h]
theorem in_L (c : Dev nD) (sm : SemLoc sig) : () ∈ L ((c : Thread nD τ), sm) := by rw [L_tc]; exact Finset.mem_singleton_self _
theorem above_cut {O : CellTallies nD τ sig Unit} (hO : Above 0 O) (g : GSem nD τ sig) (i : Unit) (h : 0 < O g i) : i ∈ L g ∧ 0 < lv g i :=
  ⟨by unfold L; rw [if_pos (hO g i h).1]; exact Finset.mem_singleton_self _, (hO g i h).2⟩

theorem cut0 : LevelCut (pcfgs (F := F)) adm () L lv 0 O₀ (fun _ => 0) :=
  ⟨fun c _ _ => in_L c _, fun c w s => lv_low c _ (stage_low0 w s), fun c g i h => above_cut (above_O₀ c) g i h⟩
theorem cut1 : LevelCutOwed (pcfgs (F := F)) adm (pdats m) () L lv 1 (fun _ => 0) :=
  ⟨fun c _ _ => in_L c _, fun c w s => lv_low c _ (stage_low1 w s), fun c t g i h => by
    have h' : 0 < (if t.val = 0 then O₀ c else 0 : CellTallies nD τ sig Unit) g i := h
    by_cases ht : t.val = 0
    · rw [if_pos ht] at h'; exact above_cut (above_O₀ c) g i h'
    · rw [if_neg ht] at h'; exact absurd h' (Nat.lt_irrefl 0)⟩

/-! ## The regions -/

/-- The attention call, entered with every unscoped buffer held. -/
def reg0 : RegionSeg (pcfgs (F := F)) adm (pdats m) () defs₀ 𝒱₀ L lv 0 :=
  RegionSeg.ofHeldIn (pcfgs (F := F)) adm (pdats m) () defs₀ 𝒱₀ L lv 0 O₀ (ucRefs τ sig) (fun _ => iprop(emp)) (fun _ => iprop(emp))
    launch0.toP rfl (fun c => (body0 (V1 m c) c).loose) (fun _ _ => rfl) (fun _ => rfl) (fun _ _ => share_full m _ rfl)
    (fun c => by
      show iprop(scopedRest spec0 c ∗ emp) ⊢ scopedRest spec0 c
      iintro ⟨H, -⟩; iexact H)
    (fun c => by
      show scopedRest spec0 c ⊢ iprop(scopedRest spec0 c ∗ emp)
      iintro H
      isplitl [H]; · iexact H
      iempintro)
    (fun _ => 0) cut0 (fun c => iprop(talk m c ∗ ∃ r, prngReg c r)) (V1 m) (fun _ _ => rfl)

/-- What rides with the held buffers before and between the calls. -/
def ride (c : Dev nD) : sProp 𝕄 := iprop((∃ Wd, owes (c : Thread nD τ) (O₀ c) Wd) ∗ talk m c ∗ ∃ r, prngReg c r)
/-- What rides with them after the ring. -/
def done (c : Dev nD) : sProp 𝕄 := iprop(semVal (barC c) 0 ∗ ∃ Wd, owes (c : Thread nD τ) (0 : CellTallies nD τ sig Unit) Wd)

theorem arr_sub0 : arrRefs (τ := τ) (pcfgs (F := F) 0).spec ⊆ ucRefs τ sig := arrRefs_sub_ucRefs spec0 (by decide)
theorem arr_sub1 : arrRefs (τ := τ) (pcfgs (F := F) 1).spec ⊆ ucRefs τ sig := arrRefs_sub_ucRefs spec1 (by decide)

theorem reg0_pre (c : Dev nD) : iprop(StableHlo.held (c : Thread nD τ) (ucRefs τ sig) (V1 m c) ∗ ride m c) ⊢ (reg0 m).pre c := by
  refine BIBase.Entails.trans ?_ (RegionSeg.ofHeldIn_pre (hS := arr_sub0) c)
  unfold ride
  iintro ⟨Hh, HO, HT, Hp⟩
  isplitl [Hh]; · iexact Hh
  isplitl [HO]; · iexact HO
  isplitr; · iempintro
  isplitl [HT] <;> iassumption
theorem reg0_post (c : Dev nD) : (reg0 m).post c ⊢ iprop(StableHlo.held (c : Thread nD τ) (ucRefs τ sig) (W2 m c) ∗ ride m c) := by
  refine (RegionSeg.ofHeldIn_post (hS := arr_sub0) c).trans ?_
  unfold ride
  iintro ⟨Hh, HO, -, HT, Hp⟩
  isplitl [Hh]; · iexact Hh
  isplitl [HO]; · iexact HO
  isplitl [HT] <;> iassumption

/-- The buffers the ring's windows do not use. -/
def others : Finset (DevRef τ sig) := ucRefs τ sig \ arrRefs (τ := τ) (pcfgs (F := F) 1).spec

theorem held_none (c : Dev nD) (W : Valuation τ sig (Elt F)) : (StableHlo.held (c : Thread nD τ) ∅ W : sProp 𝕄) = BI.emp := by
  unfold StableHlo.held; exact BI.bigSep_empty

/-- The ring, entered owing what it owes and with what its protocol made at launch. -/
def reg1 : RegionSeg (pcfgs (F := F)) adm (pdats m) () defs₀ 𝒱₀ L lv 1 :=
  RegionSeg.ofTalk (pcfgs (F := F)) adm (pdats m) () defs₀ 𝒱₀ L lv 1 osem1 (by decide : OwnSemFacts spec1 osem1) ∅ (others (F := F)) (Finset.empty_subset _)
    launch1.toP rfl (fun c => (body1 (W2 m) c).loose) (fun _ => 0) O₀ (fun c => (owed1_zero _ c).trans (zero_add _).symm) (fun c => owed1_last _ c)
    (fun _ => rfl) (fun _ _ => share_full m _ rfl) (W2 m) (W3 m)
    (fun c b hb => afterRegion_off (dat1 (W2 m) c) (W2 m c) (ucRefs τ sig) b (Finset.mem_sdiff.mp hb).1)
    (talk m) (fun c => semVal (barC c) 0) (Xk (addend (W2 m))) (fun c => semVal (barC c) 0) (hopen1 (addend (W2 m)))
    (fun c => by
      rw [held_none]
      show iprop(scopedRest spec1 c ∗ (∃ r, prngReg c r) ∗ emp ∗ Xk (addend (W2 m)) c) ⊢ (dat1 (W2 m) c).Φ 0
      iintro ⟨Hs, Hp, -, HX⟩
      iapply (hin1 (W2 m) c)
      isplitl [Hs]; · iexact Hs
      isplitl [Hp] <;> iassumption)
    (fun c => (hout1 (W2 m) c).trans (by
      rw [held_none]
      iintro ⟨Hs, Hp, Ho, HY⟩
      isplitl [Hs]; · iexact Hs
      isplitl [Hp]; · iexact Hp
      isplitr; · iempintro
      isplitl [Ho] <;> iassumption))
    (fun c => by iintro H; imodintro; iexact H) (fun _ => 0) (cut1 m) (fun _ => iprop(emp)) (fun _ _ => rfl)
    (fun c w => (afterRegion_arr (dat1 (W2 m) c) (W2 m c) winFacts1.arr_inj w).symm)

theorem reg1_pre (c : Dev nD) : iprop(StableHlo.held (c : Thread nD τ) (ucRefs τ sig) (W2 m c) ∗ ride m c) ⊢ (reg1 m).pre c := by
  show _ ⊢ iprop(StableHlo.held (c.tc : Thread nD τ) (arrRefs (τ := τ) (pcfgs (F := F) 1).spec) (W2 m c) ∗ (∃ r, prngReg c r)
    ∗ (StableHlo.held (c.tc : Thread nD τ) (others (F := F)) (W2 m c) ∗ emp) ∗ talk m c ∗ ∃ Wd, owes (c : Thread nD τ) (0 + O₀ c) Wd)
  rw [zero_add, StableHlo.held_sub_split (c.tc : Thread nD τ) (arr_sub1 (F := F)) (W2 m c)]
  unfold ride others
  iintro ⟨⟨Ha, Hr⟩, HO, HT, Hp⟩
  isplitl [Ha]; · iexact Ha
  isplitl [Hp]; · iexact Hp
  isplitl [Hr]
  · isplitl [Hr]; · iexact Hr
    iempintro
  isplitl [HT] <;> iassumption
theorem reg1_post (c : Dev nD) : (reg1 m).post c ⊢ iprop(StableHlo.held (c : Thread nD τ) (ucRefs τ sig) (W3 m c) ∗ done (F := F) c) := by
  show iprop(StableHlo.held (c.tc : Thread nD τ) (arrRefs (τ := τ) (pcfgs (F := F) 1).spec) (W3 m c) ∗ (∃ r, prngReg c r)
    ∗ (StableHlo.held (c.tc : Thread nD τ) (others (F := F)) (W3 m c) ∗ emp) ∗ semVal (barC c) 0
    ∗ ∃ Wd, owes (c : Thread nD τ) (0 : CellTallies nD τ sig Unit) Wd) ⊢ _
  rw [StableHlo.held_sub_split (c.tc : Thread nD τ) (arr_sub1 (F := F)) (W3 m c)]
  unfold done others
  iintro ⟨Ha, -, ⟨Hr, -⟩, Hb, HO⟩
  isplitl [Ha Hr]
  · isplitl [Ha] <;> iassumption
  isplitl [Hb] <;> iassumption

/-! ## @main and its launch -/

def seg3 : HostSeg (Ix := Unit) (Name := ℕ) (U := UU) (Lvl := ℕ) (pcfgs (F := F)) defs₀ 𝒱₀ L lv :=
  HostSeg.ofOps _ _ _ _ _ (ucRefs τ sig) hostOps2 (fun op h => sub_ucRefs op ((List.forall_iff_forall_mem.mp hostOps2_sub) op h))
    (fun op h => (List.forall_iff_forall_mem.mp hostOps2_fresh) op h) (W3 m) (done (F := F))

def segs (c : Dev nD) : List (Seg (pcfgs (F := F)) adm (pdats m) () defs₀ 𝒱₀ L lv) :=
  [.host (seg0 m 𝒱₀ L lv (fun _ => ride m) c), .region (reg0 m), .region (reg1 m), .host (seg3 m)]

/-- The pipelines' tokens, and the protocol's. -/
def u₀ : UU :=
  (initOf (cells (pin (pcfgs (F := F)) adm) cellOf_inj) (launchToks (pin (pcfgs (F := F)) adm) cellOf_inj), launchOf barCells dmaCells talkToks)

/-- The protocol's launch element waits on device 0 until all is dealt. -/
def onDev (c₀ : Dev nD) (X : sProp 𝕄) (c : Dev nD) : sProp 𝕄 := if c = c₀ then X else iprop(emp)
theorem bigSep_onDev (c₀ : Dev nD) (X : sProp 𝕄) : bigSep Finset.univ (onDev c₀ X) = X := by
  have off : bigSep (Finset.univ.erase c₀) (onDev c₀ X) = bigSep (Finset.univ.erase c₀) fun _ => (BI.emp : sProp 𝕄) :=
    bigSep_congr fun c hc => by unfold onDev; rw [if_neg (Finset.ne_of_mem_erase hc)]; rfl
  rw [bigSep_univ_at _ c₀, off, BI.bigSep_emp_const]
  unfold onDev; rw [if_pos rfl]
  exact BI.equiv_iff.mp sep_emp
def G : Dev nD → sProp 𝕄 := onDev 0 (BI.own (ER (launchOf barCells dmaCells talkToks)))

theorem unscoped_eq : ∀ sm : SemLoc sig, sm.isScoped .tc = false → sm = .reg barS := by decide
theorem unscopedSems0_eq (c : Dev nD) : (unscopedSems0 c : sProp 𝕄) = semVal (barC c) 0 := by
  unfold unscopedSems0
  rw [show (Finset.univ.filter fun sm : SemLoc sig => ¬ sm.isScoped .tc) = {SemLoc.reg barS} from by decide, bigSep_singleton]

/-- What a device starts with. -/
def begin' (c : Dev nD) : sProp 𝕄 := iprop(StableHlo.held (c : Thread nD τ) (ucRefs τ sig) (V0 m c) ∗ ride m c)
/-- What it has at the end beside owing nothing. -/
def finish (c : Dev nD) : sProp 𝕄 := iprop(StableHlo.held (c : Thread nD τ) (ucRefs τ sig) (W4 m c) ∗ semVal (barC c) 0)

theorem init :
    iprop((bigSep Finset.univ fun c : Dev nD => iprop(unscopedBufs c (fun b => m ((c : Thread nD τ).loc b)) ∗ unscopedSems0 c
          ∗ owes (c : Thread nD τ) (O₀ c) ∅ ∗ launchCred O₀ c ∗ prngReg c (ρ c) ∗ G c)) ∗ levAts L lv)
      ⊢ (|={Set.univ}=> bigSep Finset.univ (begin' m) : sProp 𝕄) := by
  let B : Dev nD → sProp 𝕄 := fun c => iprop(StableHlo.held (c : Thread nD τ) (ucRefs τ sig) (V0 m c) ∗ owes (c : Thread nD τ) (O₀ c) ∅ ∗ ∃ r, prngReg c r)
  have hcore (c : Dev nD) : iprop(unscopedBufs c (fun b => m ((c : Thread nD τ).loc b)) ∗ unscopedSems0 c
        ∗ owes (c : Thread nD τ) (O₀ c) ∅ ∗ launchCred O₀ c ∗ prngReg c (ρ c) ∗ G c)
      ⊢ (iprop(semVal (barC c) 0 ∗ (G c ∗ (creds c ∗ B c))) : sProp 𝕄) := by
    rw [show unscopedBufs c (fun b => m ((c : Thread nD τ).loc b)) = StableHlo.held (c : Thread nD τ) (ucRefs τ sig) (V0 m c) from unscopedBufs_held c (V0 m c),
      unscopedSems0_eq]
    iintro ⟨Hh, Hs, HO, Hc, Hp, HG⟩
    isplitl [Hs]; · iexact Hs
    isplitl [HG]; · iexact HG
    isplitl [Hc]; · iapply (creds_intro (F := F) c) $$ Hc
    isplitl [Hh]; · iexact Hh
    isplitl [HO]; · iexact HO
    iexists (ρ c); iexact Hp
  have hT (c : Dev nD) : iprop(Tk (addend (W2 m)) c ∗ B c) ⊢ begin' m c := by
    unfold begin' ride
    iintro ⟨HT, Hh, HO, Hp⟩
    isplitl [Hh]; · iexact Hh
    isplitl [HO]; · iexists ∅; iexact HO
    isplitl [HT] <;> iassumption
  refine BIBase.Entails.trans ?_ (start (addend (W2 m)) B (begin' m) hT)
  iintro ⟨H, -⟩
  ihave H' := (show _ ⊢ (bigSep Finset.univ fun c : Dev nD => iprop(semVal (barC c) 0 ∗ (G c ∗ (creds c ∗ B c))) : sProp 𝕄) from bigSep_mono fun c _ => hcore c) $$ H
  ihave H2 := bigSep_apart $$ H'; icases H2 with ⟨Hv, H3⟩
  ihave H4 := bigSep_apart $$ H3; icases H4 with ⟨HG, HB⟩
  isplitl [Hv]; · iexact Hv
  isplitl [HG]
  · iapply (show bigSep Finset.univ (G (F := F)) ⊢ BI.own (ER (launchOf barCells dmaCells talkToks)) from
      Entails.of_eq (bigSep_onDev (F := F) 0 (BI.own (ER (launchOf barCells dmaCells talkToks))))) $$ HG
  iexact HB

/-! ## The arguments are unchanged -/

theorem W4_of (c : Dev nD) (r : Ref sig .tc) (h : r ∉ hostOps2_W) : W4 m c r = W3 m c r :=
  StableHlo.after_of_writes_sub hostOps2 _ hostOps2_writes h
theorem W3_of (c : Dev nD) (r : Ref sig .tc) (h : ∀ w, arrRef cfg1.spec w = r → (cfg1.win w).isOut = false) : W3 m c r = W2 m c r :=
  afterRegion_keeps (dat1 (W2 m) c) (W2 m c) winFacts1.arr_inj (fun _ => rfl) r h
theorem W2_of (c : Dev nD) (r : Ref sig .tc) (h : ∀ w, arrRef cfg0.spec w = r → (cfg0.win w).isOut = false) : W2 m c r = V1 m c r :=
  afterRegion_keeps (dat0 (V1 m c) c) (V1 m c) winFacts0.arr_inj (fun _ => rfl) r h

/-- A buffer that no item writes. -/
theorem kept (c : Dev nD) (r : Ref sig .tc) (h4 : r ∉ hostOps2_W) (h3 : ∀ w, arrRef cfg1.spec w = r → (cfg1.win w).isOut = false)
    (h2 : ∀ w, arrRef cfg0.spec w = r → (cfg0.win w).isOut = false) (h1 : r ∉ hostOps0_W) : W4 m c r = m ((c : Thread nD τ).loc r) :=
  (W4_of m c r h4).trans <| (W3_of m c r h3).trans <| (W2_of m c r h2).trans <| (V1_of m c r h1).trans rfl

/-- What is read at the end: five arguments and the result. -/
abbrev reads : List (Ref sig .tc) := [main_arg0, main_arg1, main_arg2, main_arg3, main_arg4, main_v22]

set_option backward.isDefEq.respectTransparency.types false in
/-- The run: it ends, on every device the buffers named hold what `W4` says, and every counter is zero. -/
theorem run_all : θ_run defs (onTc (τ := τ) (main (F := F))) ⟨m, fun _ => 0, ρ⟩
    (fun r => (∀ c : Dev nD, ∀ x ∈ reads, r.2.mem ((c : Thread nD τ).loc x) = W4 m c x) ∧ r.2.sem = fun _ => 0) :=
  Pipeline.θ_run_regions_kit_dev_sems (pcfgs (F := F)) adm (pdats m) () cellOf_inj EP defs₀ 𝒱₀ L lv m ρ main (segs m)
    (fun c Q => by
      rewrite [main_chain c, Seg.run_eq_chain, show (segs m c).map Seg.prog = [StableHlo.seq (hostOps0 c),
        Prog.lift (.customCall (Pipeline.entry 0) ()), Prog.lift (.customCall (Pipeline.entry 1) ()), StableHlo.seq hostOps2] from rfl]
      dsimp (config := { failIfUnchanged := false }) only
      exact .rfl)
    (fun c => by simp only [segs, Seg.pipes_host, Seg.pipes_region, Seg.pipes_nil]; decide)
    (O₀ := O₀) (hL := L_of_ne) (G := G) (u₀ := u₀)
    (hu₀ := by
      unfold u₀ G
      iintro Hu
      ihave H := (ownU_pair _ _) $$ Hu
      icases H with ⟨HP, HX⟩
      imodintro
      isplitl [HP]; · iexact HP
      rw [bigSep_onDev]; iexact HX)
    (T₀ := begin' m) (Tₙ := finish m)
    (hch := fun c => ⟨.rfl, reg0_pre m c, (reg0_post m c).trans (reg1_pre m c), reg1_post m c, by
      show iprop(StableHlo.held (c : Thread nD τ) (ucRefs τ sig) (W4 m c) ∗ done (F := F) c)
        ⊢ iprop(finish m c ∗ ∃ W, owes (c : Thread nD τ) (0 : CellTallies nD τ sig Unit) W)
      unfold done finish
      iintro ⟨Hh, Hb, HO⟩
      isplitr [HO]
      · isplitl [Hh] <;> iassumption
      · iexact HO⟩)
    (hinit := init m ρ)
    (QY := fun c s => (∀ x ∈ reads, s.mem ((c : Thread nD τ).loc x) = W4 m c x) ∧ s.sem (barC c) = 0)
    (hfin := fun c s' => by
      unfold finish StableHlo.held
      iintro ⟨⟨Hh, Hb⟩, HSI⟩
      icombine HSI Hb gives %hb
      ihave H := (pointsTo_read_all (ucRefs τ sig) (fun b => (((c : Thread nD τ)).1, b)) (W4 m c) s') $$ [Hh HSI]
      · isplitl [Hh] <;> iassumption
      icases H with ⟨%h, HSI⟩
      imodintro
      isplitr
      · ipureintro
        refine ⟨fun x hx => h (Proc.devRef .tc x) (Finset.mem_filter.mpr ⟨StableHlo.devRef_mem_tcRefs x, ?_⟩), by simpa using hb⟩
        revert x; decide
      iexact HSI)
    (hQ := fun s h hs => ⟨fun c => (h c).1, sem_eq_zero hs fun c sm hsm => by
      obtain rfl := unscoped_eq sm hsm
      exact (h c).2⟩)

/-- The run's result and its unchanged arguments. -/
theorem run_main : θ_run defs (onTc (τ := τ) (main (F := F))) ⟨m, fun _ => 0, ρ⟩
    (fun r => (∀ c : Dev nD, r.2.mem ((c : Thread nD τ).loc main_v22) = W4 m c main_v22
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0) :=
  (θ_run defs _ _).mono (fun _ h => ⟨fun c => ⟨h.1 c main_v22 (by decide),
    (h.1 c main_arg0 (by decide)).trans (kept m c main_arg0 (by decide) (by decide) (by decide) (by decide)),
    (h.1 c main_arg1 (by decide)).trans (kept m c main_arg1 (by decide) (by decide) (by decide) (by decide)),
    (h.1 c main_arg2 (by decide)).trans (kept m c main_arg2 (by decide) (by decide) (by decide) (by decide)),
    (h.1 c main_arg3 (by decide)).trans (kept m c main_arg3 (by decide) (by decide) (by decide) (by decide)),
    (h.1 c main_arg4 (by decide)).trans (kept m c main_arg4 (by decide) (by decide) (by decide) (by decide))⟩, h.2⟩) (run_all m ρ)

end Cert.KernelIdeal.Talk

end
-- ==== Proof.Softmax.lean ====
/-
  The attention of one row of one head on the extended reals, as two programs write it: one divides the weighted sum of
  the values by the mass, the other each weight before it sums. For scores that are real numbers the two agree.
-/
module

public import Idealize.ShloMosaic.PureOps.Ideal.Laws
public import Idealize.ShloMosaic.Lib.IdealHost
public import Mathlib.Data.Finset.Fold

@[expose] public section

noncomputable section

namespace Cert.KernelIdeal.Talk

open Idealize.ShloMosaic
open scoped BigOperators

/-- The pairs of a row's and a column's block that attend to each other; blocks are of 64. -/
def keepBlocks (a b : ℕ) : Prop := a = b ∨ b = 0 ∨ (a + b) % 3 = 0
instance (a b : ℕ) : Decidable (keepBlocks a b) := by unfold keepBlocks; infer_instance
def keep (r j : ℕ) : Prop := keepBlocks (r / 64) (j / 64)
instance (r j : ℕ) : Decidable (keep r j) := by unfold keep; infer_instance

theorem keep_diag (r : ℕ) : keep r r := .inl rfl

/-- The factor of the scores and the score of a pair that does not attend. -/
def scaleW : EReal := Ideal.ofBits .f32 0x3DB504F3#32
def farW : EReal := Ideal.ofBits .f32 0xCE6E6B28#32

theorem scaleW_real : ∃ x : ℝ, scaleW = (x : EReal) := ⟨_, by unfold scaleW; simp [Ideal.ofBits, Ideal.ieee, -EReal.coe_mul]; rfl⟩
theorem farW_real : ∃ x : ℝ, farW = (x : EReal) := ⟨_, by unfold farW; simp [Ideal.ofBits, Ideal.ieee, -EReal.coe_mul]; rfl⟩

/-- A row's score at each column, from its query and the keys. -/
def logit (r : ℕ) (q : Fin 128 → EReal) (k : Fin 2048 → Fin 128 → EReal) (j : Fin 2048) : EReal :=
  if keep r j.val then (∑ e, q e * k j e) * scaleW else farW

section Row

variable (s : Fin 2048 → EReal)

def peak : EReal := Finset.univ.fold max ⊥ s
def weight (j : Fin 2048) : EReal := Ideal.exp (s j - peak s)
def mass : EReal := ∑ j, weight s j
/-- The weighted mean, divided once; -/
def meanOnce (v : Fin 2048 → EReal) : EReal := Ideal.div (∑ j, weight s j * v j) (mass s)
/-- and with each weight divided. -/
def meanEach (v : Fin 2048 → EReal) : EReal := ∑ j, v j * Ideal.div (weight s j) (mass s)

end Row

theorem coe_total {ι : Type} (t : Finset ι) (g : ι → ℝ) : ((∑ i ∈ t, g i : ℝ) : EReal) = ∑ i ∈ t, (g i : EReal) := by
  classical
  induction t using Finset.induction_on with
  | empty => simp
  | insert i t hi ih => rw [Finset.sum_insert hi, Finset.sum_insert hi, EReal.coe_add, ih]

theorem sum_real {ι : Type} (t : Finset ι) (f : ι → EReal) (h : ∀ i, ∃ x : ℝ, f i = (x : EReal)) : ∃ x : ℝ, ∑ i ∈ t, f i = (x : EReal) := by
  choose g hg using h
  refine ⟨∑ i ∈ t, g i, ?_⟩
  rw [coe_total]
  exact Finset.sum_congr rfl fun i _ => hg i

theorem mul_real {a b : EReal} (ha : ∃ x : ℝ, a = (x : EReal)) (hb : ∃ x : ℝ, b = (x : EReal)) : ∃ x : ℝ, a * b = (x : EReal) := by
  obtain ⟨x, rfl⟩ := ha; obtain ⟨y, rfl⟩ := hb
  exact ⟨x * y, (EReal.coe_mul x y).symm⟩

theorem logit_real (r : ℕ) (q : Fin 128 → EReal) (k : Fin 2048 → Fin 128 → EReal) (hq : ∀ e, ∃ x : ℝ, q e = (x : EReal))
    (hk : ∀ j e, ∃ x : ℝ, k j e = (x : EReal)) (j : Fin 2048) : ∃ x : ℝ, logit r q k j = (x : EReal) := by
  unfold logit
  split
  · exact mul_real (sum_real _ _ fun e => mul_real (hq e) (hk j e)) scaleW_real
  · exact farW_real

/-- A factor that is a positive real distributes over a sum of extended reals. -/
theorem sum_mul_real {ι : Type} (t : Finset ι) (f : ι → EReal) (a : ℝ) (ha : 0 ≤ a) : (∑ i ∈ t, f i) * (a : EReal) = ∑ i ∈ t, f i * (a : EReal) := by
  classical
  induction t using Finset.induction_on with
  | empty => simp
  | insert i t hi ih =>
    rw [Finset.sum_insert hi, Finset.sum_insert hi, ← ih]
    exact EReal.right_distrib_of_nonneg_of_ne_top (by exact_mod_cast ha) (EReal.coe_ne_top a) _ _

theorem peak_real (s : Fin 2048 → EReal) (hs : ∀ j, ∃ x : ℝ, s j = (x : EReal)) : ∃ x : ℝ, peak s = (x : EReal) := by
  have h1 : s 0 ≤ peak s := (Finset.le_fold_max _).mpr (.inr ⟨0, Finset.mem_univ _, le_rfl⟩)
  have h2 : peak s < ⊤ := (Finset.fold_max_lt _).mpr ⟨bot_lt_top, fun j _ => by obtain ⟨x, hx⟩ := hs j; rw [hx]; exact EReal.coe_lt_top x⟩
  obtain ⟨x, hx⟩ := hs 0
  refine ⟨(peak s).toReal, (EReal.coe_toReal h2.ne ?_).symm⟩
  intro e; rw [e, hx] at h1; exact absurd h1 (not_le.mpr (EReal.bot_lt_coe x))

theorem mass_pos (s : Fin 2048 → EReal) (hs : ∀ j, ∃ x : ℝ, s j = (x : EReal)) : ∃ x : ℝ, 0 < x ∧ mass s = (x : EReal) := by
  obtain ⟨p, hp⟩ := peak_real s hs
  choose g hg using hs
  refine ⟨∑ j, Real.exp (g j - p), Finset.sum_pos (fun j _ => Real.exp_pos _) ⟨0, Finset.mem_univ _⟩, ?_⟩
  unfold mass weight
  rw [coe_total]
  refine Finset.sum_congr rfl fun j _ => ?_
  rw [hp, hg j, ← EReal.coe_sub]
  exact Ideal.exp_coe _

/-- For real scores the two means are one, whatever the values. -/
theorem mean_eq (s v : Fin 2048 → EReal) (hs : ∀ j, ∃ x : ℝ, s j = (x : EReal)) : meanOnce s v = meanEach s v := by
  obtain ⟨x, hx, hm⟩ := mass_pos s hs
  unfold meanOnce meanEach
  rw [hm, Ideal.div_coe hx.ne', sum_mul_real _ _ _ (by positivity)]
  refine Finset.sum_congr rfl fun j _ => ?_
  rw [Ideal.div_coe hx.ne', mul_comm (v j), mul_assoc, mul_assoc, mul_comm (v j)]

end Cert.KernelIdeal.Talk

end
-- ==== Proof.HeadValue.lean ====
/-
  What one head adds to a block of the result, read at an index: the attention of the row, times the head's rows of the
  output weights.
-/
module

public import proofs.«01_k».proof.Proof.AttnBody
public import proofs.«01_k».proof.Proof.Softmax
public import Idealize.ShloMosaic.Lib.Pointwise

@[expose] public section

noncomputable section

namespace Cert.KernelIdeal.Talk

open Cert.KernelIdeal Cert.KernelIdeal.Gen

open Idealize.ShloMosaic

/-! ## The mask, on words -/

theorem pay4_apply (i : grid0.Coords) (r : Fin 512) (n : Fin 2048) : k0_pay4 i (ix2 r n) = BitVec.ofNat 32 ((512 * (i 0).val + r.val) / 64) := by
  pointwise [k0_pay4]
  generalize i 0 = a
  revert a r
  decide +kernel

theorem pay5_apply (r : Fin 512) (n : Fin 2048) : k0_pay5 (iota .tc S512x2048 32 [1] iota_S512x2048_d1_w32) (ix2 r n) = BitVec.ofNat 32 (n.val / 64) := by
  pointwise [k0_pay5]
  clear r
  revert n
  decide +kernel

theorem mask_apply (i : grid0.Coords) (r : Fin 512) (n : Fin 2048) :
    IntOp.ori (k0_pay6 (iota .tc S512x2048 32 [1] iota_S512x2048_d1_w32) (k0_pay4 i) (ix2 r n))
      (IntOp.cmpi .eq (k0_pay7 (iota .tc S512x2048 32 [1] iota_S512x2048_d1_w32) (k0_pay4 i) (ix2 r n)) 0#32)
      = if keep (512 * (i 0).val + r.val) n.val then 1#1 else 0#1 := by
  pointwise [k0_pay6, k0_pay7]
  rw [pay4_apply, pay5_apply]
  have ha : (512 * (i 0).val + r.val) / 64 < 32 := by have h : (i 0).val < 4 := (i 0).isLt; omega
  have hb : n.val / 64 < 32 := by omega
  refine Eq.trans ?_ (if_congr (Iff.rfl : keepBlocks ((512 * (i 0).val + r.val) / 64) (n.val / 64) ↔ keep (512 * (i 0).val + r.val) n.val) rfl rfl)
  revert hb; generalize n.val / 64 = b; revert b
  revert ha; generalize (512 * (i 0).val + r.val) / 64 = a; revert a
  decide +kernel

/-- The score of a row and a column of the block. -/
theorem pay3_apply (x : Vec Ideal S512x1024 .bf16) (wq : Vec Ideal S1024x128 .bf16) (kk : Vec Ideal S1x2048x128 .bf16) (r : Fin 512) (n : Fin 2048) :
    k0_pay3 x wq kk (ix2 r n) = (∑ e : Fin 128, (∑ k : Fin 1024, x (ix2 r k) * wq (ix2 k e)) * kk (ix3 0 n e)) * scaleW := by
  pointwise [k0_pay3]
  rfl

/-- The row's scores as the attention's. -/
def rowLogits (R : ℕ) (x : Fin 1024 → EReal) (wq : Fin 1024 → Fin 128 → EReal) (kk : Fin 2048 → Fin 128 → EReal) : Fin 2048 → EReal :=
  logit R (fun e => ∑ k, x k * wq k e) kk

theorem contrib_apply (i : grid0.Coords) (x : Vec Ideal S512x1024 .bf16) (wq : Vec Ideal S1024x128 .bf16) (kk vv : Vec Ideal S1x2048x128 .bf16)
    (wo : Vec Ideal S128x1024 .bf16) (r : Fin 512) (n : Fin 1024) :
    contrib i x wq kk vv wo (ix2 r n) = ∑ d : Fin 128, meanOnce (rowLogits (512 * (i 0).val + r.val) (fun k => x (ix2 r k)) (fun k e => wq (ix2 k e)) (fun j e => kk (ix3 0 j e)))
      (fun j => vv (ix3 0 j d)) * wo (ix2 d n) := by
  have hs : ∀ j : Fin 2048, Scalar.select (IntOp.ori (k0_pay6 (iota .tc S512x2048 32 [1] iota_S512x2048_d1_w32) (k0_pay4 i) (ix2 r j))
      (IntOp.cmpi .eq (k0_pay7 (iota .tc S512x2048 32 [1] iota_S512x2048_d1_w32) (k0_pay4 i) (ix2 r j)) 0#32))
      (k0_pay3 x wq kk (ix2 r j)) (Ideal.ofBits FTy.f32 0xCE6E6B28#32)
      = rowLogits (512 * (i 0).val + r.val) (fun k => x (ix2 r k)) (fun k e => wq (ix2 k e)) (fun j e => kk (ix3 0 j e)) j := by
    intro j
    rw [mask_apply, pay3_apply]
    unfold rowLogits logit
    split
    · rfl
    · rfl
  have hb : Ideal.ofBits FTy.f32 0xFF800000#32 = ⊥ := by simp [Ideal.ofBits, Ideal.ieee]
  unfold contrib
  pointwise [k0_pay1]
  simp only [hs, hb]
  rfl

end Cert.KernelIdeal.Talk

end
-- ==== Proof.CallValue.lean ====
/-
  The attention call's result, read at an index: over a device's eight heads, the sum of what each adds.
-/
module

public import proofs.«01_k».proof.Proof.AttnData
public import proofs.«01_k».proof.Proof.HeadValue
public import Idealize.ShloMosaic.Lib.Pipeline.ValueKit

@[expose] public section

noncomputable section

namespace Cert.KernelIdeal.Talk

open Cert.KernelIdeal Cert.KernelIdeal.Gen

open Idealize.ShloMosaic Idealize.ShloMosaic.TcCoe

variable (V : Valuation τ sig (Elt Ideal))

theorem tileOf : ∀ t : Fin grid0.N, (grid0.coords t 0).val = t.val / 8 := by decide +kernel

theorem idx0 : ∀ t : Fin grid0.N, win0_0.index t = ![t.val / 8, 0] ∧ win0_1.index t = ![0, t.val % 8] ∧ win0_2.index t = ![t.val % 8, 0, 0]
    ∧ win0_3.index t = ![t.val % 8, 0, 0] ∧ win0_4.index t = ![t.val % 8, 0] ∧ win0_5.index t = ![t.val / 8, 0] := by decide +kernel

section Blocks

variable (t : Fin cfg0.N)

theorem t_lt : t.val < 32 := t.isLt

theorem xBlk_apply (r : Fin 512) (k : Fin 1024) : xBlk V t (ix2 r k) = V main_v19 (ix2 ⟨512 * (t.val / 8) + r.val, by have := t_lt t; omega⟩ k) := by
  blk_ext [xBlk, idx0 t]
theorem wqBlk_apply (k : Fin 1024) (e : Fin 128) : wqBlk V t (ix2 k e) = V main_arg1 (ix2 k ⟨128 * (t.val % 8) + e.val, by omega⟩) := by
  blk_ext [wqBlk, idx0 t]
theorem kBlk_apply (j : Fin 2048) (e : Fin 128) : kBlk V t (ix3 0 j e) = V main_v17 (ix3 ⟨t.val % 8, by omega⟩ j e) := by
  blk_ext [kBlk, idx0 t]
theorem vBlk_apply (j : Fin 2048) (e : Fin 128) : vBlk V t (ix3 0 j e) = V main_v18 (ix3 ⟨t.val % 8, by omega⟩ j e) := by
  blk_ext [vBlk, idx0 t]
theorem woBlk_apply (d : Fin 128) (n : Fin 1024) : woBlk V t (ix2 d n) = V main_arg4 (ix2 ⟨128 * (t.val % 8) + d.val, by omega⟩ n) := by
  blk_ext [woBlk, idx0 t]

end Blocks

/-- What head `h` adds to the result at row `R`, column `n`. -/
def headTerm (R : Fin 2048) (n : Fin 1024) (h : Fin 8) : EReal :=
  ∑ d : Fin 128, meanOnce (rowLogits R.val (fun k => V main_v19 (ix2 R k)) (fun k e => V main_arg1 (ix2 k ⟨128 * h.val + e.val, by omega⟩))
    (fun j e => V main_v17 (ix3 h j e))) (fun j => V main_v18 (ix3 h j d)) * V main_arg4 (ix2 ⟨128 * h.val + d.val, by omega⟩ n)

theorem point_apply (t : Fin cfg0.N) (r : Fin 512) (n : Fin 1024) :
    contrib (grid0.coords t) (xBlk V t) (wqBlk V t) (kBlk V t) (vBlk V t) (woBlk V t) (ix2 r n)
      = headTerm V ⟨512 * (t.val / 8) + r.val, by have := t_lt t; omega⟩ n ⟨t.val % 8, by omega⟩ := by
  rw [contrib_apply]
  simp only [xBlk_apply, wqBlk_apply, kBlk_apply, vBlk_apply, woBlk_apply, tileOf]
  rfl

/-- The attention call's whole result. -/
def callSum : Vec Ideal S2048x1024 .f32 := fun i => ∑ h : Fin 8, headTerm V (i 0) (i 1) h

theorem outAt_flush (t : Fin cfg0.N) (ht : t.val % 8 = 7) (r : Fin 512) (n : Fin 1024) :
    outAt V t.val t.isLt (ix2 r n) = ∑ h : Fin 8, headTerm V ⟨512 * (t.val / 8) + r.val, by have := t_lt t; omega⟩ n h := by
  have key := Pipeline.eq_sum_fin_of_reset_step_apply_of_flush (fun m h => outAt V m h) 8 (fun _ => (0 : EReal))
    (fun t => contrib (grid0.coords t) (xBlk V t) (wqBlk V t) (kBlk V t) (vBlk V t) (woBlk V t))
    (fun t h i => by rw [outAt_reset V t h (fun _ => 0), stepAt_reset V t h]; exact (zero_add _).symm)
    (fun t h i => by
      rw [outAt_step V t (fun e => h (by rw [e]))]
      unfold stepAt headStep
      rw [if_neg (by rw [headOf t]; exact h)]
      rw [shapeCast_self]
      rfl) t ht (ix2 r n)
  rw [key, zero_add]
  refine Finset.sum_congr rfl fun s _ => ?_
  rw [point_apply]
  have e1 : (8 * (t.val / 8) + s.val) / 8 = t.val / 8 := by omega
  have e2 : (8 * (t.val / 8) + s.val) % 8 = s.val := by omega
  simp only [e1, e2]

theorem call_result (c : Dev nD) : (dat0 V c).arrAt 5 cfg0.N = callSum V := by
  refine (dat0 V c).arrAt_eq_of_covers 5 _ (by decide +kernel) fun t hf y => ?_
  show outAt V t.val t.isLt y = callSum V (((cfg0.win 5).blk t).view.emb y)
  have hm := (flush0_5 t).mp hf
  have hy : (y : S512x1024.Idx) = ix2 (y 0) (y 1) := by funext a; match a with | 0 => rfl | 1 => rfl
  refine (congrArg (outAt V t.val t.isLt) hy).trans ((outAt_flush V t hm (y 0) (y 1)).trans ?_)
  unfold callSum
  refine Finset.sum_congr rfl fun h _ => ?_
  refine congrArg₂ (fun a b => headTerm V a b h) (Fin.ext ?_) (Fin.ext ?_)
  · blk_simp [idx0 t]
    show 512 * (t.val / 8) + (y 0).val = t.val / 8 * 512 + (y 0).val
    rw [Nat.mul_comm]
  · blk_simp [idx0 t]

end Cert.KernelIdeal.Talk

end
-- ==== Proof.HostValue.lean ====
/-
  The buffers at the attention call's entry, read at an index: a device's heads are cut out of the whole keys and values.
-/
module

public import proofs.«01_k».proof.Proof.Gen.KernelIdeal.Regions
public import Idealize.ShloMosaic.Lib.Pointwise
public import Idealize.ShloMosaic.Lib.StableHlo.RunRead
public import Idealize.ShloMosaic.Lib.Claim

@[expose] public section

noncomputable section

namespace Cert.KernelIdeal.Talk

open Cert.KernelIdeal Cert.KernelIdeal.Gen

open Idealize.ShloMosaic Idealize.ShloMosaic.TcCoe

variable (m : (ℓ : Loc nD τ sig) → Buf (Elt Ideal) ℓ) (c : Dev nD)

/-- Where a device's heads start in the whole keys and values. -/
def starts : Fin 3 → ℤ := ![0, 8 * (c.val : ℤ), 0]

/-- The word the heads start at, as the program computes it from its device's number. -/
def startWord : IVec S_ 32 := muli (Host.remui (Host.divui (constantI S_ 32 (Dev.word c)) (constantI S_ 32 1#32)) (constantI S_ 32 8#32)) (constantI S_ 32 8#32)

theorem start_word : ∀ c : Dev nD, BitVec.toInt (select (cmpi .slt (startWord c) (constantI S_ 32 0#32)) (addi (startWord c) (constantI S_ 32 64#32)) (startWord c)
    (Shape.Idx.first h_S_)) = starts c 1 := by
  decide +kernel

/-- Eight heads of the keys or the values, from `s` on, the heads outermost. -/
def cutAt (X : Vec Ideal S1x2048x64x128 .bf16) (s : Fin 3 → ℤ) : Vec Ideal S8x2048x128 .bf16 :=
  transpose S8x2048x128 [1, 0, 2] (Host.dynamicSlice S2048x8x128 (shapeCast S2048x64x128 X shapeCasts_S1x2048x64x128_S2048x64x128) s sliceFits_S2048x64x128_S2048x8x128)
    transposes_S2048x8x128_S8x2048x128_1_0_2
/-- The device's own heads. -/
def cutHeads (X : Vec Ideal S1x2048x64x128 .bf16) : Vec Ideal S8x2048x128 .bf16 := cutAt X (starts c)

theorem cutHeads_apply (X : Vec Ideal S1x2048x64x128 .bf16) (h : Fin 8) (j : Fin 2048) (e : Fin 128) :
    cutHeads c X (ix3 h j e) = X (ix4 0 j ⟨8 * c.val + h.val, by have h1 : c.val < 8 := c.isLt; omega⟩ e) := by
  have h1 : c.val < 8 := c.isLt
  have e0 (H) : Host.clampedStart S2048x64x128 S2048x8x128 H (starts c) 0 = 0 := by simp [Host.clampedStart, starts]
  have e1 (H) : Host.clampedStart S2048x64x128 S2048x8x128 H (starts c) 1 = 8 * c.val := by
    simp [Host.clampedStart, starts]
    omega
  have e2 (H) : Host.clampedStart S2048x64x128 S2048x8x128 H (starts c) 2 = 0 := by simp [Host.clampedStart, starts]
  pointwise [cutHeads, cutAt]
  simp only [e0, e1, e2, Nat.zero_add]

/-- A device's keys at the call's entry. -/
theorem keys_read : V1 m c main_v17 = cutHeads c (m ((c : Thread nD τ).loc main_arg2)) := by
  unfold_abbrev_sides
  after_reads_simp
  refine congrArg (cutAt _) (funext fun k => ?_)
  match k with
  | 0 =>
    show BitVec.toInt (StableHlo.upto (hostOps0 c) (V0 m c) 16 (Proc.tc.devRef main_c_4) _) = _
    after_reads_simp
    rfl
  | 1 =>
    show BitVec.toInt (StableHlo.upto (hostOps0 c) (V0 m c) 16 (Proc.tc.devRef main_v9) (Shape.Idx.first h_S_)) = _
    after_reads_simp
    exact start_word c
  | 2 =>
    show BitVec.toInt (StableHlo.upto (hostOps0 c) (V0 m c) 16 (Proc.tc.devRef main_c_5) _) = _
    after_reads_simp
    rfl

/-- A device's values at the call's entry. -/
theorem vals_read : V1 m c main_v18 = cutHeads c (m ((c : Thread nD τ).loc main_arg3)) := by
  unfold_abbrev_sides
  after_reads_simp
  refine congrArg (cutAt _) (funext fun k => ?_)
  match k with
  | 0 =>
    show BitVec.toInt (StableHlo.upto (hostOps0 c) (V0 m c) 27 (Proc.tc.devRef main_c_9) _) = _
    after_reads_simp
    rfl
  | 1 =>
    show BitVec.toInt (StableHlo.upto (hostOps0 c) (V0 m c) 27 (Proc.tc.devRef main_v15) (Shape.Idx.first h_S_)) = _
    after_reads_simp
    exact start_word c
  | 2 =>
    show BitVec.toInt (StableHlo.upto (hostOps0 c) (V0 m c) 27 (Proc.tc.devRef main_c_10) _) = _
    after_reads_simp
    rfl

theorem rows_apply (r : Fin 2048) (k : Fin 1024) : V1 m c main_v19 (ix2 r k) = m ((c : Thread nD τ).loc main_arg0) (ix3 0 r k) := by
  unfold_abbrev_sides
  after_reads_simp
  pointwise

end Cert.KernelIdeal.Talk

end
-- ==== Proof.RunValue.lean ====
/-
  The kernel's result, read at an index: over the devices, over a device's heads, over a head's coordinates.
-/
module

public import proofs.«01_k».proof.Proof.Run
public import proofs.«01_k».proof.Proof.CallValue
public import proofs.«01_k».proof.Proof.HostValue

@[expose] public section

noncomputable section

namespace Cert.KernelIdeal.Talk

open Cert.KernelIdeal Cert.KernelIdeal.Gen

open Idealize.ShloMosaic Idealize.ShloMosaic.TcCoe
open Idealize.ShloMosaic.Pipeline

/-! ## The ring's sum -/

theorem acc_sum (P : Dev nD → Arr Ideal) (k : Dev nD) (i : S2048x1024.Idx) : ∀ j, acc P k j i = ∑ t ∈ Finset.range (j + 1), (P (up k t) i : EReal)
  | 0 => by rw [Finset.sum_range_one, up_zero]; rfl
  | j + 1 => by rw [Finset.sum_range_succ, ← acc_sum P k i j]; exact add_comm (P (up k (j + 1)) i : EReal) (acc P k j i)

/-- Once round the ring every device is met. -/
theorem total_sum (P : Dev nD → Arr Ideal) (i : S2048x1024.Idx) : total P i = ∑ c : Dev nD, (P c i : EReal) := by
  refine (acc_sum P _ i 7).trans (Finset.sum_nbij (fun t => up _ t) (fun _ _ => Finset.mem_univ _) ?_ ?_ fun _ _ => rfl)
  · intro a ha b hb e
    have h := congrArg Fin.val e
    have ha := Finset.mem_range.mp ha
    have hb := Finset.mem_range.mp hb
    simp only [up_val] at h
    omega
  · intro d _
    generalize (⟨(i 0).val / 256, _⟩ : Dev nD) = k
    have hd : d.val < 8 := d.isLt
    have hk : k.val < 8 := k.isLt
    refine ⟨(d.val + 8 - k.val) % 8, Finset.mem_coe.mpr (Finset.mem_range.mpr (Nat.mod_lt _ (by decide))), dev_ext ?_⟩
    rw [up_val]
    omega

/-! ## The buffers -/

variable (m : (ℓ : Loc nD τ sig) → Buf (Elt Ideal) ℓ) (c : Dev nD)

theorem W2_v20 : W2 m c main_v20 = callSum (V1 m c) :=
  (afterRegion_arr (dat0 (V1 m c) c) (V1 m c) (by decide) 5).trans (call_result (V1 m c) c)

theorem index1 (a : Fin 2) : win1_0.index t1_0 a = 0 := rfl

/-- The ring's addend on a device is its attention call's result. -/
theorem addend_eq : addend (W2 m) c = callSum (V1 m c) := by
  rw [← W2_v20]
  funext i
  unfold addend
  blk_simp
  refine congrArg _ (funext fun a => Fin.ext ?_)
  match a with
  | 0 => blk_simp; rw [index1, Nat.zero_mul, Nat.zero_add]
  | 1 => blk_simp; rw [index1, Nat.zero_mul, Nat.zero_add]

theorem W3_v21 : W3 m c main_v21 = total (addend (W2 m)) := by
  refine (afterRegion_arr (dat1 (W2 m) c) (W2 m c) (by decide) 1).trans ?_
  refine (dat1 (W2 m) c).arrAt_eq_of_after_last 1 t1_0 (by decide +kernel) _ fun j => ?_
  show total (addend (W2 m)) _ = total (addend (W2 m)) _
  rfl

theorem W4_v22 (r : Fin 2048) (n : Fin 1024) : W4 m c main_v22 (ix3 0 r n) = W3 m c main_v21 (ix2 r n) := by
  unfold W4
  after_reads_simp
  pointwise

theorem kernel_value (r : Fin 2048) (n : Fin 1024) : W4 m c main_v22 (ix3 0 r n) = ∑ d : Dev nD, ∑ h : Fin 8, headTerm (V1 m d) r n h := by
  rw [W4_v22, W3_v21, total_sum]
  simp only [addend_eq]
  rfl

end Cert.KernelIdeal.Talk

end
-- ==== Proof.RefMask.lean ====
/-
  The reference's mask, read at an index.
-/
module

public import proofs.«01_k».proof.Proof.Gen.ReferenceIdeal.Run
public import proofs.«01_k».proof.Proof.Softmax
public import Idealize.ShloMosaic.Lib.Pointwise

@[expose] public section

noncomputable section

namespace Cert.ReferenceIdeal.Talk

open Cert.ReferenceIdeal Cert.ReferenceIdeal.Gen
open Cert.KernelIdeal.Talk

open Idealize.ShloMosaic Idealize.ShloMosaic.TcCoe

/-! ## The mask -/

/-- Every row's block. -/
def blocks : IVec S2048 32 :=
  select (andi (cmpi .ne (signi (iotaInDim S2048 32 0)) (broadcastInDim S2048 ![] bcast_S_S2048 (signi (id (constantI S_ 32 64#32)))))
    (cmpi .ne (Host.remsi (iotaInDim S2048 32 0) (broadcastInDim S2048 ![] bcast_S_S2048 (id (constantI S_ 32 64#32)))) (broadcastInDim S2048 ![] bcast_S_S2048 (constantI S_ 32 0#32))))
    (subi (Host.divsi (iotaInDim S2048 32 0) (broadcastInDim S2048 ![] bcast_S_S2048 (id (constantI S_ 32 64#32)))) (broadcastInDim S2048 ![] bcast_S_S2048 (constantI S_ 32 1#32)))
    (Host.divsi (iotaInDim S2048 32 0) (broadcastInDim S2048 ![] bcast_S_S2048 (id (constantI S_ 32 64#32))))

def rowBlocks : IVec S2048x2048 32 := broadcastInDim S2048x2048 ![0, 1] bcast_S2048x1_S2048x2048_0_1 (broadcastInDim S2048x1 ![0] bcast_S2048_S2048x1_0 blocks)
def colBlocks : IVec S2048x2048 32 := broadcastInDim S2048x2048 ![0, 1] bcast_S1x2048_S2048x2048_0_1 (broadcastInDim S1x2048 ![1] bcast_S2048_S1x2048_1 blocks)
def three : IVec S_ 32 := select (cmpi .eq (id (constantI S_ 32 3#32)) (constantI S_ 32 0#32)) (constantI S_ 32 1#32) (id (constantI S_ 32 3#32))
def rest : IVec S2048x2048 32 := Host.remsi (addi rowBlocks colBlocks) (broadcastInDim S2048x2048 ![] bcast_S_S2048x2048 three)
def zero2 : IVec S2048x2048 32 := broadcastInDim S2048x2048 ![] bcast_S_S2048x2048 (constantI S_ 32 0#32)
def modThree : IVec S2048x2048 32 :=
  select (andi (cmpi .ne (cmpi .slt rest zero2) (broadcastInDim S2048x2048 ![] bcast_S_S2048x2048 (cmpi .slt three (constantI S_ 32 0#32)))) (cmpi .ne rest zero2))
    (addi rest (broadcastInDim S2048x2048 ![] bcast_S_S2048x2048 three)) rest
def mask : IVec S2048x2048 1 :=
  ori (ori (cmpi .eq rowBlocks colBlocks) (broadcastInDim S2048x2048 ![0, 1] bcast_S1x2048_S2048x2048_0_1
    (cmpi .eq (broadcastInDim S1x2048 ![1] bcast_S2048_S1x2048_1 blocks) (broadcastInDim S1x2048 ![] bcast_S_S1x2048 (constantI S_ 32 0#32))))) (cmpi .eq modThree zero2)
def anyKept : IVec S2048 1 := Host.reduce IntOp.ori mask (constantI S_ 1 0#1) reducesTo_S2048x2048_S2048_d1 h_S_
def anyKept4 : IVec S1x1x2048x1 1 := broadcastInDim S1x1x2048x1 ![2] bcast_S2048_S1x1x2048x1_2 anyKept

theorem blocks_apply (r : Fin 2048) : blocks (ix1 r) = BitVec.ofNat 32 (r.val / 64) := by
  pointwise [blocks]
  revert r
  decide +kernel

theorem mask_apply (r j : Fin 2048) : mask (ix2 r j) = if keep r.val j.val then 1#1 else 0#1 := by
  pointwise [mask, modThree, rest, three, zero2, rowBlocks, colBlocks]
  rw [blocks_apply, blocks_apply]
  have ha : r.val / 64 < 32 := by omega
  have hb : j.val / 64 < 32 := by omega
  refine Eq.trans ?_ (if_congr (Iff.rfl : keepBlocks (r.val / 64) (j.val / 64) ↔ keep r.val j.val) rfl rfl)
  revert hb; generalize j.val / 64 = b; revert b
  revert ha; generalize r.val / 64 = a; revert a
  decide +kernel

theorem anyKept_apply (r : Fin 2048) : anyKept (ix1 r) = 1#1 := by
  pointwise [anyKept]
  rw [← Finset.insert_erase (Finset.mem_univ r), Finset.fold_insert (Finset.notMem_erase r _), mask_apply, if_pos (keep_diag r.val)]
  exact BitVec.allOnes_or

end Cert.ReferenceIdeal.Talk

end
-- ==== Proof.RefValue.lean ====
/-
  The reference's result, read at an index: its term is named piece by piece, and each piece is read at an index.
-/
module

public import proofs.«01_k».proof.Proof.RefMask

@[expose] public section

noncomputable section

namespace Cert.ReferenceIdeal.Talk

open Cert.ReferenceIdeal Cert.ReferenceIdeal.Gen
open Cert.KernelIdeal.Talk

open Idealize.ShloMosaic Idealize.ShloMosaic.TcCoe

/-! ## The attention -/

variable (x : FVec Ideal S1x2048x1024 .bf16) (wq : FVec Ideal S1024x8192 .bf16) (k v : FVec Ideal S1x2048x64x128 .bf16) (wo : FVec Ideal S8192x1024 .bf16)

def queries : FVec Ideal S1x2048x64x128 .bf16 :=
  shapeCast _ (truncf .bf16 (Host.dotGeneral dot_S1x2048x1024_S1024x8192_S1x2048x8192_2_0_01_1_n_n none x wq) bitsLt_bf16_f32) shapeCasts_S1x2048x8192_S1x2048x64x128
def scores : FVec Ideal S1x64x2048x2048 .f32 :=
  extf .f32 (truncf .bf16 (Host.dotGeneral dot_S1x2048x64x128_S1x2048x64x128_S1x64x2048x2048_3_3_1_1_02_02 none (queries x wq) k) bitsLt_bf16_f32) bitsLt_bf16_f32
def logits : FVec Ideal S1x64x2048x2048 .f32 :=
  select (broadcastInDim S1x64x2048x2048 ![0, 1, 2, 3] bcast_S1x1x2048x2048_S1x64x2048x2048_0_1_2_3 (broadcastInDim S1x1x2048x2048 ![2, 3] bcast_S2048x2048_S1x1x2048x2048_2_3 mask))
    (mulf (scores x wq k) (broadcastInDim S1x64x2048x2048 ![] bcast_S_S1x64x2048x2048 (constant S_ .f32 0x3DB504F3#32)))
    (broadcastInDim S1x64x2048x2048 ![] bcast_S_S1x64x2048x2048 (id (constant S_ .f32 0xCE6E6B28#32)))
def peaks : FVec Ideal S1x64x2048 .f32 := Host.reduce FloatOps.maximumf (logits x wq k) (constant S_ .f32 0xFF800000#32) reducesTo_S1x64x2048x2048_S1x64x2048_d3 h_S_
def weights : FVec Ideal S1x64x2048x2048 .f32 :=
  Host.exp (subf (logits x wq k) (broadcastInDim S1x64x2048x2048 ![0, 1, 2, 3] bcast_S1x64x2048x1_S1x64x2048x2048_0_1_2_3
    (broadcastInDim S1x64x2048x1 ![0, 1, 2] bcast_S1x64x2048_S1x64x2048x1_0_1_2 (peaks x wq k))))
def masses : FVec Ideal S1x64x2048x1 .f32 :=
  select (broadcastInDim S1x64x2048x1 ![0, 1, 2, 3] bcast_S1x1x2048x1_S1x64x2048x1_0_1_2_3 anyKept4)
    (broadcastInDim S1x64x2048x1 ![0, 1, 2] bcast_S1x64x2048_S1x64x2048x1_0_1_2
      (Host.reduceAdd (weights x wq k) (constant S_ .f32 0x00000000#32) reducesTo_S1x64x2048x2048_S1x64x2048_d3 h_S_))
    (broadcastInDim S1x64x2048x1 ![] bcast_S_S1x64x2048x1 (id (constant S_ .f32 0x3F800000#32)))
def keptWide : IVec S1x64x2048x2048 1 := broadcastInDim S1x64x2048x2048 ![0, 1, 2, 3] bcast_S1x1x2048x1_S1x64x2048x2048_0_1_2_3 anyKept4
def massWide : FVec Ideal S1x64x2048x2048 .f32 := broadcastInDim S1x64x2048x2048 ![0, 1, 2, 3] bcast_S1x64x2048x1_S1x64x2048x2048_0_1_2_3 (masses x wq k)
def zeroWide : FVec Ideal S1x64x2048x2048 .f32 := broadcastInDim S1x64x2048x2048 ![] bcast_S_S1x64x2048x2048 (id (constant S_ .f32 0x00000000#32))
def shares : FVec Ideal S1x64x2048x2048 .f32 := select keptWide (Host.divf (weights x wq k) (massWide x wq k)) zeroWide
def means : FVec Ideal S1x64x128x2048 .f32 :=
  Host.dotGeneral dot_S1x2048x64x128_S1x64x2048x2048_S1x64x128x2048_1_3_3_2_02_01 none (extf .f32 v bitsLt_bf16_f32) (shares x wq k)
def context : FVec Ideal S1x2048x8192 .f32 :=
  shapeCast _ (transpose S1x2048x64x128 [0, 3, 1, 2] (means x wq k v) transposes_S1x64x128x2048_S1x2048x64x128_0_3_1_2) shapeCasts_S1x2048x64x128_S1x2048x8192
def result : FVec Ideal S1x2048x1024 .f32 :=
  Host.dotGeneral dot_S1x2048x8192_S8192x1024_S1x2048x1024_2_0_01_1_n_n none (context x wq k v) (extf .f32 wo bitsLt_bf16_f32)

theorem res_eq (m : (ℓ : Loc nD τ sig) → Buf (Elt Ideal) ℓ) (c : Dev nD) : Cert.ReferenceIdeal.Value.res_main_v49 m c
    = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Cert.ReferenceIdeal.Value.res_main_v49
  rfl

/-- The query of row `r` in head `h`. -/
def query (r : Fin 2048) (h : Fin 64) (e : Fin 128) : EReal := ∑ i : Fin 1024, x (ix3 0 r i) * wq (ix2 i ⟨h.val * 128 + e.val, by omega⟩)

theorem queries_apply (r : Fin 2048) (h : Fin 64) (e : Fin 128) : queries x wq (ix4 0 r h e) = query x wq r h e := by
  pointwise [queries]
  rfl

/-- The scores of row `r` in head `h`. -/
def row (r : Fin 2048) (h : Fin 64) : Fin 2048 → EReal := logit r.val (query x wq r h) fun j e => k (ix4 0 j h e)

theorem logits_apply (h : Fin 64) (r j : Fin 2048) : logits x wq k (ix4 0 h r j) = row x wq k r h j := by
  pointwise [logits, scores]
  rw [mask_apply]
  unfold row logit
  split
  · simp only [queries_apply]; rfl
  · rfl

theorem peaks_apply (h : Fin 64) (r : Fin 2048) : peaks x wq k (ix3 0 h r) = peak (row x wq k r h) := by
  have hb : Ideal.ofBits FTy.f32 0xFF800000#32 = ⊥ := by simp [Ideal.ofBits, Ideal.ieee]
  pointwise [peaks]
  simp only [logits_apply, hb]
  unfold peak
  rfl

theorem weights_apply (h : Fin 64) (r j : Fin 2048) : weights x wq k (ix4 0 h r j) = weight (row x wq k r h) j := by
  pointwise [weights]
  rw [peaks_apply, logits_apply]
  unfold weight
  rfl

theorem masses_apply (h : Fin 64) (r : Fin 2048) : masses x wq k (ix4 0 h r 0) = mass (row x wq k r h) := by
  pointwise [masses, anyKept4]
  simp only [anyKept_apply, weights_apply]
  exact if_pos rfl

theorem keptWide_apply (h : Fin 64) (r j : Fin 2048) : keptWide (ix4 0 h r j) = 1#1 := by
  pointwise [keptWide, anyKept4]
  exact anyKept_apply r

theorem massWide_apply (h : Fin 64) (r j : Fin 2048) : massWide x wq k (ix4 0 h r j) = mass (row x wq k r h) := by
  pointwise [massWide]
  exact masses_apply x wq k h r

theorem select_one (a b : EReal) : Scalar.select (1#1) a b = a := if_pos rfl
theorem select_div {s : Shape} (p : IVec s 1) (a b z : FVec Ideal s .f32) (i : s.Idx) : select p (Host.divf a b) z i = Scalar.select (p i) (Ideal.div (a i) (b i)) (z i) := rfl

theorem shares_apply (h : Fin 64) (r j : Fin 2048) :
    shares x wq k (ix4 0 h r j) = Ideal.div (weight (row x wq k r h) j) (mass (row x wq k r h)) := by
  refine (select_div _ _ _ _ _).trans ?_
  rw [keptWide_apply, weights_apply, massWide_apply]
  exact select_one _ _

theorem means_apply (h : Fin 64) (d : Fin 128) (r : Fin 2048) :
    means x wq k v (ix4 0 h d r) = meanEach (row x wq k r h) fun j => v (ix4 0 j h d) := by
  pointwise [means]
  simp only [shares_apply]
  rfl

theorem context_apply (r : Fin 2048) (c : Fin 8192) :
    context x wq k v (ix3 0 r c) = means x wq k v (ix4 0 ⟨c.val / 128, by omega⟩ ⟨c.val % 128, by omega⟩ r) := by
  pointwise [context]

/-- The result: over the 8192 coordinates of the heads' means. -/
theorem result_apply (r : Fin 2048) (n : Fin 1024) : result x wq k v wo (ix3 0 r n)
    = ∑ c : Fin 8192, meanEach (row x wq k r ⟨c.val / 128, by omega⟩) (fun j => v (ix4 0 j ⟨c.val / 128, by omega⟩ ⟨c.val % 128, by omega⟩)) * wo (ix2 c n) := by
  pointwise [result]
  simp only [context_apply, means_apply]

end Cert.ReferenceIdeal.Talk

end
-- ==== Proof.Finite.lean ====
/-
  What the precondition says: every entry of the input, of the query weights and of the keys is a real number.
-/
module

public import proofs.«01_k».proof.Defs
public import proofs.«01_k».proof.Proof.Gen.KernelIdeal
public import Idealize.ShloMosaic.Lib.ReduceAll
public import Idealize.ShloMosaic.Lib.Pointwise

@[expose] public section

noncomputable section

namespace Cert.KernelIdeal.Talk

open Idealize.ShloMosaic Idealize.ShloMosaic.TcCoe

open Cert.Pre_finite_KernelIdeal (S_ S1x2048x1024 S1024x1024 S1x2048x64x128)

/-- A number whose absolute value is below the infinity is real. -/
theorem real_of_abs {a : EReal} (h : max a (-a) < ⊤) : ∃ x : ℝ, a = x := by
  have h1 : a ≠ ⊤ := fun e => by rw [e] at h; simp at h
  have h2 : a ≠ ⊥ := fun e => by rw [e] at h; simp at h
  exact ⟨a.toReal, (EReal.coe_toReal h1 h2).symm⟩

theorem real_of_word (a : EReal) (h : Ideal.cmp .olt (max a (-a)) (Ideal.ofBits .bf16 0x7F80#16) = 1#1) : ∃ x : ℝ, a = x := by
  have hb : Ideal.ofBits FTy.bf16 0x7F80#16 = ⊤ := by simp [Ideal.ofBits, Ideal.ieee]
  rw [hb] at h
  refine real_of_abs (lt_top_iff_ne_top.mpr fun e => ?_)
  rw [e] at h
  simp [Ideal.cmp] at h

/-- An array of which the program's finiteness test says yes has real entries only. -/
theorem all_real {s : Shape} {ax : List (Fin s.rank)} (x : FVec Ideal s .bf16) (hb : S_.BroadcastsInDim s ![]) (hr : s.ReducesTo ax S_) (hu : 0 < S_.numel) (j : S_.Idx)
    (H : Host.reduce IntOp.andi (cmpf .olt (Host.absf x) (broadcastInDim s ![] hb (constant S_ .bf16 0x7F80#16))) (constantI S_ 1 1#1) hr hu j = 1#1) (i : s.Idx) :
    ∃ r : ℝ, x i = r :=
  have : Subsingleton S_.Idx := ⟨fun a b => funext fun k => k.elim0⟩
  real_of_word (x i) (Host.reduce_andi_all _ _ hr hu j H i)

theorem facts_pre : Cert.Pre_finite_KernelIdeal.Facts := by constructor <;> decide +kernel
theorem facts_pre' : Cert.Pre_finite_ReferenceIdeal.Facts := by constructor <;> decide +kernel

theorem pre_real [Cert.Pre_finite_KernelIdeal.Facts] (x : FVec Ideal S1x2048x1024 .bf16) (wq : FVec Ideal S1024x1024 .bf16) (k v : FVec Ideal S1x2048x64x128 .bf16) (wo : FVec Ideal S1024x1024 .bf16)
    (H : Cert.Pre_finite_KernelIdeal.fn (F := Ideal) x wq k v wo = fun _ => 1#1) :
    (∀ i, ∃ r : ℝ, x i = r) ∧ (∀ i, ∃ r : ℝ, wq i = r) ∧ ∀ i, ∃ r : ℝ, k i = r := by
  have split {a b : BitVec 1} (h : IntOp.andi a b = 1#1) : a = 1#1 ∧ b = 1#1 := by
    revert a b; decide
  have h := congrFun H (fun k => k.elim0)
  dsimp only [Cert.Pre_finite_KernelIdeal.fn] at h
  obtain ⟨h12, h3⟩ := split h
  obtain ⟨h1, h2⟩ := split h12
  exact ⟨all_real _ _ _ _ _ h1, all_real _ _ _ _ _ h2, all_real _ _ _ _ _ h3⟩

end Cert.KernelIdeal.Talk

end
-- ==== Proof.Tie.lean ====
/-
  The two results are one: over each device's heads the kernel adds what the reference adds over the whole contraction.
-/
module

public import proofs.«01_k».proof.Proof.RunValue
public import proofs.«01_k».proof.Proof.RefValue
public import proofs.«01_k».proof.Proof.Finite
public import Idealize.ShloMosaic.Lib.Layout

@[expose] public section

noncomputable section

namespace Cert.KernelIdeal.Talk

open Cert.KernelIdeal Cert.KernelIdeal.Gen
open Cert.ReferenceIdeal.Talk (row query result result_apply)

open Idealize.ShloMosaic Idealize.ShloMosaic.TcCoe

/-- Devices, heads and coordinates taken one within another are the contraction's coordinates. -/
theorem sum_split (f : Fin 64 → Fin 128 → EReal) :
    ∑ d : Dev nD, ∑ h : Fin 8, ∑ e : Fin 128, f ⟨8 * d.val + h.val, by have h1 : d.val < 8 := d.isLt; omega⟩ e
      = ∑ c : Fin 8192, f ⟨c.val / 128, by omega⟩ ⟨c.val % 128, by omega⟩ := by
  have h1 := Fin.sum_divmod_fin (N := 8192) (A := 64) 128 f
  have h2 := Fin.sum_mul_add_fin (L := 64) 8 8 fun H => ∑ e : Fin 128, f H e
  refine Eq.trans ?_ (h2.trans h1.symm)
  simp only [Nat.mul_comm 8]

variable (m : (ℓ : Loc nD τ sig) → Buf (Elt Ideal) ℓ)
variable (x : FVec Ideal S1x2048x1024 .bf16) (wq : FVec Ideal ⟨2, ![1024, 8192]⟩ .bf16) (k v : FVec Ideal S1x2048x64x128 .bf16) (wo : FVec Ideal ⟨2, ![8192, 1024]⟩ .bf16)

/-- Every device holds its part of the whole arrays. -/
structure Parts : Prop where
  x (c : Dev nD) : m ((c : Thread nD τ).loc main_arg0) = x
  wq (c : Dev nD) : m ((c : Thread nD τ).loc main_arg1) = Layout.block ⟨2, ![1024, 1024]⟩ ⟨2, ![1024, 8192]⟩ 1 8 c wq
  k (c : Dev nD) : m ((c : Thread nD τ).loc main_arg2) = k
  v (c : Dev nD) : m ((c : Thread nD τ).loc main_arg3) = v
  wo (c : Dev nD) : m ((c : Thread nD τ).loc main_arg4) = Layout.block ⟨2, ![1024, 1024]⟩ ⟨2, ![8192, 1024]⟩ 0 8 c wo
/-- And those that decide the scores are real. -/
structure Reals : Prop where
  x (c : Dev nD) (i) : ∃ r : ℝ, (m ((c : Thread nD τ).loc main_arg0) : FVec Ideal S1x2048x1024 .bf16) i = (r : EReal)
  wq (c : Dev nD) (i) : ∃ r : ℝ, (m ((c : Thread nD τ).loc main_arg1) : FVec Ideal ⟨2, ![1024, 1024]⟩ .bf16) i = (r : EReal)
  k (c : Dev nD) (i) : ∃ r : ℝ, (m ((c : Thread nD τ).loc main_arg2) : FVec Ideal S1x2048x64x128 .bf16) i = (r : EReal)

variable {m x wq k v wo}

section Head

variable (hp : Parts m x wq k v wo) (d : Dev nD) (h : Fin 8)
include hp

theorem wq_part (i : Fin 1024) (e : Fin 128) :
    V1 m d main_arg1 (ix2 i ⟨128 * h.val + e.val, by omega⟩) = wq (ix2 i ⟨(8 * d.val + h.val) * 128 + e.val, by have h1 : d.val < 8 := d.isLt; omega⟩) := by
  rw [V1_of m d main_arg1 (by decide)]
  show m ((d : Thread nD τ).loc main_arg1) _ = _
  rw [hp.wq, Layout.block_apply]
  refine congrArg wq (funext fun a => Fin.ext ?_)
  match a with
  | 0 => rfl
  | 1 => show d.val * 1024 + (128 * h.val + e.val) = _; dsimp; omega

theorem wo_part (e : Fin 128) (n : Fin 1024) :
    V1 m d main_arg4 (ix2 ⟨128 * h.val + e.val, by omega⟩ n) = wo (ix2 ⟨(8 * d.val + h.val) * 128 + e.val, by have h1 : d.val < 8 := d.isLt; omega⟩ n) := by
  rw [V1_of m d main_arg4 (by decide)]
  show m ((d : Thread nD τ).loc main_arg4) _ = _
  rw [hp.wo, Layout.block_apply]
  refine congrArg wo (funext fun a => Fin.ext ?_)
  match a with
  | 0 => show d.val * 1024 + (128 * h.val + e.val) = _; dsimp; omega
  | 1 => rfl

theorem x_part (R : Fin 2048) (i : Fin 1024) : V1 m d main_v19 (ix2 R i) = x (ix3 0 R i) :=
  (rows_apply m d R i).trans (congrFun (hp.x d) _)

theorem k_part (j : Fin 2048) (e : Fin 128) :
    V1 m d main_v17 (ix3 h j e) = k (ix4 0 j ⟨8 * d.val + h.val, by have h1 : d.val < 8 := d.isLt; omega⟩ e) :=
  (congrFun (keys_read m d) _).trans ((cutHeads_apply d _ h j e).trans (congrFun (hp.k d) _))

theorem v_part (j : Fin 2048) (e : Fin 128) :
    V1 m d main_v18 (ix3 h j e) = v (ix4 0 j ⟨8 * d.val + h.val, by have h1 : d.val < 8 := d.isLt; omega⟩ e) :=
  (congrFun (vals_read m d) _).trans ((cutHeads_apply d _ h j e).trans (congrFun (hp.v d) _))

/-- A head's scores on its device are the reference's. -/
theorem scores_part (R : Fin 2048) :
    rowLogits R.val (fun i => V1 m d main_v19 (ix2 R i)) (fun i e => V1 m d main_arg1 (ix2 i ⟨128 * h.val + e.val, by omega⟩)) (fun j e => V1 m d main_v17 (ix3 h j e))
      = row x wq k R ⟨8 * d.val + h.val, by have h1 : d.val < 8 := d.isLt; omega⟩ := by
  unfold rowLogits row query
  refine congrArg₂ (fun q k => logit R.val q k) (funext fun e => Finset.sum_congr rfl fun i _ => ?_) (funext fun j => funext fun e => k_part hp d h j e)
  exact congrArg₂ (· * ·) (x_part hp d R i) (wq_part hp d h i e)

omit hp in
theorem scores_real (hr : Reals m) (R : Fin 2048) (j : Fin 2048) :
    ∃ r : ℝ, rowLogits R.val (fun i => V1 m d main_v19 (ix2 R i)) (fun i e => V1 m d main_arg1 (ix2 i ⟨128 * h.val + e.val, by omega⟩)) (fun j e => V1 m d main_v17 (ix3 h j e)) j = r := by
  unfold rowLogits
  refine logit_real _ _ _ (fun e => sum_real _ _ fun i => mul_real ?_ ?_) (fun j e => ?_) j
  · exact (hr.x d _).imp fun _ e => (rows_apply m d R i).trans e
  · exact (hr.wq d _).imp fun _ e => (congrFun (V1_of m d main_arg1 (by decide)) _).trans e
  · exact (hr.k d _).imp fun _ e' => (congrFun (keys_read m d) _).trans ((cutHeads_apply d _ h j e).trans e')

theorem head_part (hr : Reals m) (R : Fin 2048) (n : Fin 1024) : headTerm (V1 m d) R n h
    = ∑ e : Fin 128, meanEach (row x wq k R ⟨8 * d.val + h.val, by have h1 : d.val < 8 := d.isLt; omega⟩)
        (fun j => v (ix4 0 j ⟨8 * d.val + h.val, by have h1 : d.val < 8 := d.isLt; omega⟩ e))
        * wo (ix2 ⟨(8 * d.val + h.val) * 128 + e.val, by have h1 : d.val < 8 := d.isLt; omega⟩ n) := by
  unfold headTerm
  refine Finset.sum_congr rfl fun e _ => ?_
  refine congrArg₂ (· * ·) ((mean_eq _ _ (scores_real d h hr R)).trans ?_) (wo_part hp d h e n)
  exact congrArg₂ (fun s v => meanEach s v) (scores_part hp d h R) (funext fun j => v_part hp d h j e)

end Head

/-- The kernel's result on every device is the reference's. -/
theorem tie (hp : Parts m x wq k v wo) (hr : Reals m) (c : Dev nD) : W4 m c main_v22 = result x wq k v wo := by
  funext i
  obtain ⟨r, n, rfl⟩ : ∃ (r : Fin 2048) (n : Fin 1024), i = ix3 0 r n :=
    ⟨i 1, i 2, funext fun a => by match a with | 0 => exact Subsingleton.elim (α := Fin 1) _ _ | 1 => rfl | 2 => rfl⟩
  rw [kernel_value]
  refine Eq.trans ?_ (result_apply x wq k v wo r n).symm
  simp only [head_part hp _ _ hr]
  refine (sum_split fun H e => meanEach (row x wq k r H) (fun j => v (ix4 0 j H e)) * wo (ix2 ⟨H.val * 128 + e.val, by omega⟩ n)).trans ?_
  refine Finset.sum_congr rfl fun c _ => ?_
  have e1 : c.val / 128 * 128 + c.val % 128 = c.val := Nat.div_add_mod' c.val 128
  simp only [e1]

end Cert.KernelIdeal.Talk

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Tie
public import Idealize.ShloMosaic.Adequacy
public import Idealize.ShloMosaic.Init

@[expose] public section

noncomputable section

namespace Cert.Proof

open Idealize.ShloMosaic Idealize.SL.Sem

section Frame

open Cert.KernelIdeal

/-- Over any float values: the arguments end unchanged and every counter at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run _ _ _).mono (fun _ h => ⟨fun c => (h.1 c).2, h.2⟩) (Talk.run_main m ρ)

end Frame

/-- The program as printed and its idealization are the same text: the same body table, -/
theorem same_bodies {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl
  | 1, (t, s) => rfl
theorem same_defs {F : FTy → Type} [FloatOps F] : Cert.Kernel.defs (F := F) = Cert.KernelIdeal.defs (F := F) := by
  unfold Cert.Kernel.defs
  rw [same_bodies]; rfl
/-- and the same @main, so the one run serves for both. -/
theorem frame_kernel : Cert.quiescent_Kernel := fun m ρ _ => by
  rw [same_defs]
  exact frame_any (F := Bits) m ρ
theorem frame_ideal : Cert.quiescent_KernelIdeal := fun m ρ _ => frame_any (F := Ideal) m ρ

theorem no_sem : ∀ _ : SemLoc Cert.ReferenceIdeal.sig, False := by decide

theorem frame_reference : Cert.quiescent_ReferenceIdeal := fun m ρ _ =>
  (θ_run Cert.ReferenceIdeal.defs _ _).mono (fun _ h => ⟨fun c => (h c).2, funext fun g => (no_sem g.2).elim⟩) (Cert.ReferenceIdeal.Value.run (F := Ideal) m ρ)

/-- The kernel on its eight devices leaves the reference's result on each: both runs are known, and `Talk.tie` is the
    equation of what they leave. -/
theorem value : Cert.algebraic_KernelIdeal_ReferenceIdeal_pre_finite_KernelIdeal (hPre_finite_KernelIdeal := Cert.KernelIdeal.Talk.facts_pre) := by
  intro m g m' g' hf ha
  have := Cert.KernelIdeal.Talk.facts_pre
  refine ⟨Cert.ReferenceIdeal.Value.res_main_v49 m' 0, (θ_run _ _ _).mono (fun _ h c => ⟨(h.1 c).1.trans ?_, (h.1 c).2⟩) (Cert.KernelIdeal.Talk.run_main m g),
    (θ_run _ _ _).mono (fun _ h => h 0) (Cert.ReferenceIdeal.Value.run (F := Ideal) m' g')⟩
  have hr := fun c => Cert.KernelIdeal.Talk.pre_real _ _ _ _ _ (hf c)
  exact (Cert.KernelIdeal.Talk.tie
    ⟨fun c => (ha c).1, fun c => (ha c).2.1, fun c => (ha c).2.2.1, fun c => (ha c).2.2.2.1, fun c => (ha c).2.2.2.2⟩
    ⟨fun c => (hr c).1, fun c => (hr c).2.1, fun c => (hr c).2.2⟩ c).trans (Cert.ReferenceIdeal.Talk.res_eq m' 0).symm

theorem claim : Cert.Claim := ⟨Cert.Kernel.Gen.facts, Cert.KernelIdeal.Gen.facts, Cert.ReferenceIdeal.Gen.facts, Cert.KernelIdeal.Talk.facts_pre, Cert.KernelIdeal.Talk.facts_pre',
  frame_kernel, frame_ideal, fun m ρ _ => frame_ideal m ρ trivial, frame_reference, fun m ρ _ => frame_reference m ρ trivial, trivial, value⟩

end Cert.Proof

end
